-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![8192, 1024]⟩ ⟨2, ![16384, 1024]⟩ (Layout.meshBlock [2, 2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S16384x1024 : Shape := ⟨2, ![16384, 1024]⟩
abbrev S4096x1024 : Shape := ⟨2, ![4096, 1024]⟩
abbrev S16 : Shape := ⟨1, ![16]⟩
abbrev S1 : Shape := ⟨1, ![1]⟩
abbrev S_ : Shape := ⟨0, ![]⟩
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S16384x1024, .bf16⟩
  | .local _ .vmem, ⟨0, _⟩ => ⟨S16384x1024, .bf16⟩
  | .local _ .vmem, ⟨1, _⟩ => ⟨S4096x1024, .f32⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v11 : BitVec 32 := Scalar.muli v2 c4096_i32
  let v17 : BitVec 32 := Scalar.addi v11 c0_i32
  let c0_i32_12 : BitVec 32 := 0#32
  ![v17.toNat, 0]
def k0_dev1 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v98 : BitVec 32 := Scalar.muli v2 c4_i32_62
  let v99 : BitVec 32 := Scalar.addi c0_i32_63 v98
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_64 : BitVec 32 := 2#32
  let v100 : BitVec 32 := Scalar.muli v9 c2_i32_64
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v102 : BitVec 32 := Scalar.muli v8 c1_i32_65
  let v103 : BitVec 32 := Scalar.addi v101 v102
  v103.toNat
def k0_dev2 (d0 : Dev nD) : Nat :=
  let c0_i32_68 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_67 : BitVec 32 := 4#32
  let v104 : BitVec 32 := Scalar.muli v10 c4_i32_67
  let v105 : BitVec 32 := Scalar.addi c0_i32_68 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v106 : BitVec 32 := Scalar.muli v5 c2_i32_69
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v108 : BitVec 32 := Scalar.muli v8 c1_i32_70
  let v109 : BitVec 32 := Scalar.addi v107 v108
  v109.toNat
def k0_off2 (d0 : Dev nD) (c0_i32_76 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v14 : BitVec 32 := Scalar.muli v5 c8192_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v11 : BitVec 32 := Scalar.muli v2 c4096_i32
  let v114 : BitVec 32 := Scalar.addi v14 v11
  let v115 : BitVec 32 := Scalar.addi v114 c0_i32_76
  let v118 : Index := Scalar.indexCast v115
  let c0_78 : Index := 0#32
  ![v118.toNat, 0]
def k0_off3 (d0 : Dev nD) (c0_i32_76 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v14 : BitVec 32 := Scalar.muli v5 c8192_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v11 : BitVec 32 := Scalar.muli v2 c4096_i32
  let v114 : BitVec 32 := Scalar.addi v14 v11
  let v115 : BitVec 32 := Scalar.addi v114 c0_i32_76
  let c0_i32_85 : BitVec 32 := 0#32
  ![v115.toNat, 0]
def k0_dev3 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v120 : BitVec 32 := Scalar.muli v2 c4_i32_81
  let v121 : BitVec 32 := Scalar.addi c0_i32_82 v120
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_83 : BitVec 32 := 2#32
  let v122 : BitVec 32 := Scalar.muli v9 c2_i32_83
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v124 : BitVec 32 := Scalar.muli v8 c1_i32_84
  let v125 : BitVec 32 := Scalar.addi v123 v124
  v125.toNat
def k0_off4 (d0 : Dev nD) (c0_i32_87 : BitVec 32) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4096_i32_6 : BitVec 32 := 4096#32
  let v13 : BitVec 32 := Scalar.muli v12 c4096_i32_6
  let v132 : BitVec 32 := Scalar.addi v13 c0_i32_87
  let c0_i32_91 : BitVec 32 := 0#32
  ![v132.toNat, 0]
def k0_dev4 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v147 : BitVec 32 := Scalar.muli v2 c4_i32_101
  let v148 : BitVec 32 := Scalar.addi c0_i32_102 v147
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_103 : BitVec 32 := 2#32
  let v149 : BitVec 32 := Scalar.muli v9 c2_i32_103
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v151 : BitVec 32 := Scalar.muli v8 c1_i32_104
  let v152 : BitVec 32 := Scalar.addi v150 v151
  v152.toNat
def k0_dev5 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v174 : BitVec 32 := Scalar.muli v2 c4_i32_121
  let v175 : BitVec 32 := Scalar.addi c0_i32_122 v174
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_123 : BitVec 32 := 2#32
  let v176 : BitVec 32 := Scalar.muli v9 c2_i32_123
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v178 : BitVec 32 := Scalar.muli v8 c1_i32_124
  let v179 : BitVec 32 := Scalar.addi v177 v178
  v179.toNat
def k0_dev6 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v201 : BitVec 32 := Scalar.muli v2 c4_i32_141
  let v202 : BitVec 32 := Scalar.addi c0_i32_142 v201
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_143 : BitVec 32 := 2#32
  let v203 : BitVec 32 := Scalar.muli v9 c2_i32_143
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v205 : BitVec 32 := Scalar.muli v8 c1_i32_144
  let v206 : BitVec 32 := Scalar.addi v204 v205
  v206.toNat
def k0_dev7 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v228 : BitVec 32 := Scalar.muli v2 c4_i32_161
  let v229 : BitVec 32 := Scalar.addi c0_i32_162 v228
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_163 : BitVec 32 := 2#32
  let v230 : BitVec 32 := Scalar.muli v9 c2_i32_163
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v232 : BitVec 32 := Scalar.muli v8 c1_i32_164
  let v233 : BitVec 32 := Scalar.addi v231 v232
  v233.toNat
def k0_dev8 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v255 : BitVec 32 := Scalar.muli v2 c4_i32_181
  let v256 : BitVec 32 := Scalar.addi c0_i32_182 v255
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_183 : BitVec 32 := 2#32
  let v257 : BitVec 32 := Scalar.muli v9 c2_i32_183
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v259 : BitVec 32 := Scalar.muli v8 c1_i32_184
  let v260 : BitVec 32 := Scalar.addi v258 v259
  v260.toNat
def k0_dev9 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v282 : BitVec 32 := Scalar.muli v2 c4_i32_201
  let v283 : BitVec 32 := Scalar.addi c0_i32_202 v282
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_203 : BitVec 32 := 2#32
  let v284 : BitVec 32 := Scalar.muli v9 c2_i32_203
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v286 : BitVec 32 := Scalar.muli v8 c1_i32_204
  let v287 : BitVec 32 := Scalar.addi v285 v286
  v287.toNat
def k0_dev10 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v309 : BitVec 32 := Scalar.muli v2 c4_i32_221
  let v310 : BitVec 32 := Scalar.addi c0_i32_222 v309
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_223 : BitVec 32 := 2#32
  let v311 : BitVec 32 := Scalar.muli v9 c2_i32_223
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v313 : BitVec 32 := Scalar.muli v8 c1_i32_224
  let v314 : BitVec 32 := Scalar.addi v312 v313
  v314.toNat
def k0_dev11 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v336 : BitVec 32 := Scalar.muli v2 c4_i32_241
  let v337 : BitVec 32 := Scalar.addi c0_i32_242 v336
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_243 : BitVec 32 := 2#32
  let v338 : BitVec 32 := Scalar.muli v9 c2_i32_243
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v340 : BitVec 32 := Scalar.muli v8 c1_i32_244
  let v341 : BitVec 32 := Scalar.addi v339 v340
  v341.toNat
def k0_dev12 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v363 : BitVec 32 := Scalar.muli v2 c4_i32_261
  let v364 : BitVec 32 := Scalar.addi c0_i32_262 v363
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_263 : BitVec 32 := 2#32
  let v365 : BitVec 32 := Scalar.muli v9 c2_i32_263
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v367 : BitVec 32 := Scalar.muli v8 c1_i32_264
  let v368 : BitVec 32 := Scalar.addi v366 v367
  v368.toNat
def k0_dev13 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v390 : BitVec 32 := Scalar.muli v2 c4_i32_281
  let v391 : BitVec 32 := Scalar.addi c0_i32_282 v390
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_283 : BitVec 32 := 2#32
  let v392 : BitVec 32 := Scalar.muli v9 c2_i32_283
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v394 : BitVec 32 := Scalar.muli v8 c1_i32_284
  let v395 : BitVec 32 := Scalar.addi v393 v394
  v395.toNat
def k0_dev14 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v417 : BitVec 32 := Scalar.muli v2 c4_i32_301
  let v418 : BitVec 32 := Scalar.addi c0_i32_302 v417
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_303 : BitVec 32 := 2#32
  let v419 : BitVec 32 := Scalar.muli v9 c2_i32_303
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v421 : BitVec 32 := Scalar.muli v8 c1_i32_304
  let v422 : BitVec 32 := Scalar.addi v420 v421
  v422.toNat
def k0_dev15 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v444 : BitVec 32 := Scalar.muli v2 c4_i32_321
  let v445 : BitVec 32 := Scalar.addi c0_i32_322 v444
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_323 : BitVec 32 := 2#32
  let v446 : BitVec 32 := Scalar.muli v9 c2_i32_323
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v448 : BitVec 32 := Scalar.muli v8 c1_i32_324
  let v449 : BitVec 32 := Scalar.addi v447 v448
  v449.toNat
def k0_dev16 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v471 : BitVec 32 := Scalar.muli v2 c4_i32_341
  let v472 : BitVec 32 := Scalar.addi c0_i32_342 v471
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_343 : BitVec 32 := 2#32
  let v473 : BitVec 32 := Scalar.muli v9 c2_i32_343
  let v474 : BitVec 32 := Scalar.addi v472 v473
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_344 : BitVec 32 := 1#32
  let v475 : BitVec 32 := Scalar.muli v8 c1_i32_344
  let v476 : BitVec 32 := Scalar.addi v474 v475
  v476.toNat
def k0_dev17 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v498 : BitVec 32 := Scalar.muli v2 c4_i32_361
  let v499 : BitVec 32 := Scalar.addi c0_i32_362 v498
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_363 : BitVec 32 := 2#32
  let v500 : BitVec 32 := Scalar.muli v9 c2_i32_363
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v502 : BitVec 32 := Scalar.muli v8 c1_i32_364
  let v503 : BitVec 32 := Scalar.addi v501 v502
  v503.toNat
def k0_dev18 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v525 : BitVec 32 := Scalar.muli v2 c4_i32_381
  let v526 : BitVec 32 := Scalar.addi c0_i32_382 v525
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_383 : BitVec 32 := 2#32
  let v527 : BitVec 32 := Scalar.muli v9 c2_i32_383
  let v528 : BitVec 32 := Scalar.addi v526 v527
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v529 : BitVec 32 := Scalar.muli v8 c1_i32_384
  let v530 : BitVec 32 := Scalar.addi v528 v529
  v530.toNat
def k0_off5 (d0 : Dev nD) (c0_i32_400 : BitVec 32) : Fin 2 → Nat :=
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c8192_i32_8 : BitVec 32 := 8192#32
  let v16 : BitVec 32 := Scalar.muli v15 c8192_i32_8
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v11 : BitVec 32 := Scalar.muli v2 c4096_i32
  let v552 : BitVec 32 := Scalar.addi v16 v11
  let v553 : BitVec 32 := Scalar.addi v552 c0_i32_400
  let c0_i32_407 : BitVec 32 := 0#32
  ![v553.toNat, 0]
def k0_dev19 (d0 : Dev nD) : Nat :=
  let c0_i32_404 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_403 : BitVec 32 := 4#32
  let v554 : BitVec 32 := Scalar.muli v10 c4_i32_403
  let v555 : BitVec 32 := Scalar.addi c0_i32_404 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v556 : BitVec 32 := Scalar.muli v5 c2_i32_405
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v558 : BitVec 32 := Scalar.muli v8 c1_i32_406
  let v559 : BitVec 32 := Scalar.addi v557 v558
  v559.toNat
def k0_off6 (d0 : Dev nD) (c0_i32_415 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v14 : BitVec 32 := Scalar.muli v5 c8192_i32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4096_i32_6 : BitVec 32 := 4096#32
  let v13 : BitVec 32 := Scalar.muli v12 c4096_i32_6
  let v572 : BitVec 32 := Scalar.addi v14 v13
  let v573 : BitVec 32 := Scalar.addi v572 c0_i32_415
  let v574 : Index := Scalar.indexCast v573
  let c0_416 : Index := 0#32
  ![v574.toNat, 0]
def k0_dev20 (d0 : Dev nD) : Nat :=
  let c0_i32_429 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_428 : BitVec 32 := 4#32
  let v588 : BitVec 32 := Scalar.muli v10 c4_i32_428
  let v589 : BitVec 32 := Scalar.addi c0_i32_429 v588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_430 : BitVec 32 := 2#32
  let v590 : BitVec 32 := Scalar.muli v5 c2_i32_430
  let v591 : BitVec 32 := Scalar.addi v589 v590
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_431 : BitVec 32 := 1#32
  let v592 : BitVec 32 := Scalar.muli v8 c1_i32_431
  let v593 : BitVec 32 := Scalar.addi v591 v592
  v593.toNat
def k0_dev21 (d0 : Dev nD) : Nat :=
  let c0_i32_454 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_453 : BitVec 32 := 4#32
  let v622 : BitVec 32 := Scalar.muli v10 c4_i32_453
  let v623 : BitVec 32 := Scalar.addi c0_i32_454 v622
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_455 : BitVec 32 := 2#32
  let v624 : BitVec 32 := Scalar.muli v5 c2_i32_455
  let v625 : BitVec 32 := Scalar.addi v623 v624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_456 : BitVec 32 := 1#32
  let v626 : BitVec 32 := Scalar.muli v8 c1_i32_456
  let v627 : BitVec 32 := Scalar.addi v625 v626
  v627.toNat
def k0_dev22 (d0 : Dev nD) : Nat :=
  let c0_i32_479 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_478 : BitVec 32 := 4#32
  let v656 : BitVec 32 := Scalar.muli v10 c4_i32_478
  let v657 : BitVec 32 := Scalar.addi c0_i32_479 v656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v658 : BitVec 32 := Scalar.muli v5 c2_i32_480
  let v659 : BitVec 32 := Scalar.addi v657 v658
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v660 : BitVec 32 := Scalar.muli v8 c1_i32_481
  let v661 : BitVec 32 := Scalar.addi v659 v660
  v661.toNat
def k0_dev23 (d0 : Dev nD) : Nat :=
  let c0_i32_504 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_503 : BitVec 32 := 4#32
  let v690 : BitVec 32 := Scalar.muli v10 c4_i32_503
  let v691 : BitVec 32 := Scalar.addi c0_i32_504 v690
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_505 : BitVec 32 := 2#32
  let v692 : BitVec 32 := Scalar.muli v5 c2_i32_505
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_506 : BitVec 32 := 1#32
  let v694 : BitVec 32 := Scalar.muli v8 c1_i32_506
  let v695 : BitVec 32 := Scalar.addi v693 v694
  v695.toNat
def k0_dev24 (d0 : Dev nD) : Nat :=
  let c0_i32_529 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_528 : BitVec 32 := 4#32
  let v724 : BitVec 32 := Scalar.muli v10 c4_i32_528
  let v725 : BitVec 32 := Scalar.addi c0_i32_529 v724
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v726 : BitVec 32 := Scalar.muli v5 c2_i32_530
  let v727 : BitVec 32 := Scalar.addi v725 v726
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_531 : BitVec 32 := 1#32
  let v728 : BitVec 32 := Scalar.muli v8 c1_i32_531
  let v729 : BitVec 32 := Scalar.addi v727 v728
  v729.toNat
def k0_dev25 (d0 : Dev nD) : Nat :=
  let c0_i32_554 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_553 : BitVec 32 := 4#32
  let v758 : BitVec 32 := Scalar.muli v10 c4_i32_553
  let v759 : BitVec 32 := Scalar.addi c0_i32_554 v758
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_555 : BitVec 32 := 2#32
  let v760 : BitVec 32 := Scalar.muli v5 c2_i32_555
  let v761 : BitVec 32 := Scalar.addi v759 v760
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_556 : BitVec 32 := 1#32
  let v762 : BitVec 32 := Scalar.muli v8 c1_i32_556
  let v763 : BitVec 32 := Scalar.addi v761 v762
  v763.toNat
def k0_dev26 (d0 : Dev nD) : Nat :=
  let c0_i32_579 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_578 : BitVec 32 := 4#32
  let v792 : BitVec 32 := Scalar.muli v10 c4_i32_578
  let v793 : BitVec 32 := Scalar.addi c0_i32_579 v792
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_580 : BitVec 32 := 2#32
  let v794 : BitVec 32 := Scalar.muli v5 c2_i32_580
  let v795 : BitVec 32 := Scalar.addi v793 v794
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_581 : BitVec 32 := 1#32
  let v796 : BitVec 32 := Scalar.muli v8 c1_i32_581
  let v797 : BitVec 32 := Scalar.addi v795 v796
  v797.toNat
def k0_dev27 (d0 : Dev nD) : Nat :=
  let c0_i32_604 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_603 : BitVec 32 := 4#32
  let v826 : BitVec 32 := Scalar.muli v10 c4_i32_603
  let v827 : BitVec 32 := Scalar.addi c0_i32_604 v826
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v828 : BitVec 32 := Scalar.muli v5 c2_i32_605
  let v829 : BitVec 32 := Scalar.addi v827 v828
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_606 : BitVec 32 := 1#32
  let v830 : BitVec 32 := Scalar.muli v8 c1_i32_606
  let v831 : BitVec 32 := Scalar.addi v829 v830
  v831.toNat
def k0_dev28 (d0 : Dev nD) : Nat :=
  let c0_i32_629 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_628 : BitVec 32 := 4#32
  let v860 : BitVec 32 := Scalar.muli v10 c4_i32_628
  let v861 : BitVec 32 := Scalar.addi c0_i32_629 v860
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_630 : BitVec 32 := 2#32
  let v862 : BitVec 32 := Scalar.muli v5 c2_i32_630
  let v863 : BitVec 32 := Scalar.addi v861 v862
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_631 : BitVec 32 := 1#32
  let v864 : BitVec 32 := Scalar.muli v8 c1_i32_631
  let v865 : BitVec 32 := Scalar.addi v863 v864
  v865.toNat
def k0_dev29 (d0 : Dev nD) : Nat :=
  let c0_i32_654 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_653 : BitVec 32 := 4#32
  let v894 : BitVec 32 := Scalar.muli v10 c4_i32_653
  let v895 : BitVec 32 := Scalar.addi c0_i32_654 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_655 : BitVec 32 := 2#32
  let v896 : BitVec 32 := Scalar.muli v5 c2_i32_655
  let v897 : BitVec 32 := Scalar.addi v895 v896
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_656 : BitVec 32 := 1#32
  let v898 : BitVec 32 := Scalar.muli v8 c1_i32_656
  let v899 : BitVec 32 := Scalar.addi v897 v898
  v899.toNat
def k0_dev30 (d0 : Dev nD) : Nat :=
  let c0_i32_679 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_678 : BitVec 32 := 4#32
  let v928 : BitVec 32 := Scalar.muli v10 c4_i32_678
  let v929 : BitVec 32 := Scalar.addi c0_i32_679 v928
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_680 : BitVec 32 := 2#32
  let v930 : BitVec 32 := Scalar.muli v5 c2_i32_680
  let v931 : BitVec 32 := Scalar.addi v929 v930
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_681 : BitVec 32 := 1#32
  let v932 : BitVec 32 := Scalar.muli v8 c1_i32_681
  let v933 : BitVec 32 := Scalar.addi v931 v932
  v933.toNat
def k0_dev31 (d0 : Dev nD) : Nat :=
  let c0_i32_704 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_703 : BitVec 32 := 4#32
  let v962 : BitVec 32 := Scalar.muli v10 c4_i32_703
  let v963 : BitVec 32 := Scalar.addi c0_i32_704 v962
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_705 : BitVec 32 := 2#32
  let v964 : BitVec 32 := Scalar.muli v5 c2_i32_705
  let v965 : BitVec 32 := Scalar.addi v963 v964
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_706 : BitVec 32 := 1#32
  let v966 : BitVec 32 := Scalar.muli v8 c1_i32_706
  let v967 : BitVec 32 := Scalar.addi v965 v966
  v967.toNat
def k0_dev32 (d0 : Dev nD) : Nat :=
  let c0_i32_729 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_728 : BitVec 32 := 4#32
  let v996 : BitVec 32 := Scalar.muli v10 c4_i32_728
  let v997 : BitVec 32 := Scalar.addi c0_i32_729 v996
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_730 : BitVec 32 := 2#32
  let v998 : BitVec 32 := Scalar.muli v5 c2_i32_730
  let v999 : BitVec 32 := Scalar.addi v997 v998
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_731 : BitVec 32 := 1#32
  let v1000 : BitVec 32 := Scalar.muli v8 c1_i32_731
  let v1001 : BitVec 32 := Scalar.addi v999 v1000
  v1001.toNat
def k0_dev33 (d0 : Dev nD) : Nat :=
  let c0_i32_754 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_753 : BitVec 32 := 4#32
  let v1030 : BitVec 32 := Scalar.muli v10 c4_i32_753
  let v1031 : BitVec 32 := Scalar.addi c0_i32_754 v1030
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_755 : BitVec 32 := 2#32
  let v1032 : BitVec 32 := Scalar.muli v5 c2_i32_755
  let v1033 : BitVec 32 := Scalar.addi v1031 v1032
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_756 : BitVec 32 := 1#32
  let v1034 : BitVec 32 := Scalar.muli v8 c1_i32_756
  let v1035 : BitVec 32 := Scalar.addi v1033 v1034
  v1035.toNat
def k0_dev34 (d0 : Dev nD) : Nat :=
  let c0_i32_779 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_778 : BitVec 32 := 4#32
  let v1064 : BitVec 32 := Scalar.muli v10 c4_i32_778
  let v1065 : BitVec 32 := Scalar.addi c0_i32_779 v1064
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_780 : BitVec 32 := 2#32
  let v1066 : BitVec 32 := Scalar.muli v5 c2_i32_780
  let v1067 : BitVec 32 := Scalar.addi v1065 v1066
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_781 : BitVec 32 := 1#32
  let v1068 : BitVec 32 := Scalar.muli v8 c1_i32_781
  let v1069 : BitVec 32 := Scalar.addi v1067 v1068
  v1069.toNat
abbrev stage0_0 : Fin 1 → Memref sig .tc .vmem S16384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
/-
  The kernel function as sixteen repetitions of four steps. A device first starts sixteen local copies of its
  half of its rows into the stage; it then meets its two neighbours at the barrier; then, chunk by chunk, it casts
  the chunk and sends it across `y` (`stepSend`), forwards across `x` what came in and casts the other half
  (`stepForward`), and waits for what is still in flight (`stepDrain`). `body_eq` says that the kernel function
  is these steps in order; everything after works on a step at an arbitrary chunk.
-/
module

public import proofs.«01_k».proof.Proof.Gen.KernelIdeal
public import proofs.«01_k».proof.Proof.Gen.KernelIdeal.Skeleton

@[expose] public section

noncomputable section

namespace Cert.GatherProof

open Cert.KernelIdeal Cert.KernelIdeal.Gen
open Idealize.ShloMosaic
open Idealize.SL.Sem

variable {F : FTy → Type} [FloatOps F]

theorem inb_stage (j : Fin 16) : ∀ a, (![256 * j.val, 0] : Fin 2 → Nat) a + S256x1024.size a ≤ S4096x1024.size a := by
  revert j; decide
theorem inb_sem (j : Fin 16) : ∀ a, (![j.val] : Fin 1 → Nat) a + S1.size a ≤ S16.size a := by
  revert j; decide

/-! ## The pieces a step works on -/

/-- Chunk `j` of the stage. -/
abbrev stageRect (j : Fin 16) : Rect S4096x1024 := Rect.unit (s := S4096x1024) ![256 * j.val, 0] S256x1024.size (inb_stage j)
/-- Rows of the argument that device `d` casts first / second, chunk `j`. -/
abbrev nearRect (d : Dev nD) (j : Fin 16) : Rect S8192x1024 :=
  Rect.unit (s := S8192x1024) (k0_off1 d (BitVec.ofNat 32 (256 * j.val))) S256x1024.size (k0_off1_inb d j)
abbrev farRect (d : Dev nD) (j : Fin 16) : Rect S8192x1024 :=
  Rect.unit (s := S8192x1024) (k0_off4 d (BitVec.ofNat 32 (256 * j.val))) S256x1024.size (k0_off4_inb d j)
/-- Rows of the result: the ones device `d` casts and sends across `y` (as stored, as sent), the ones it receives and
    forwards across `x`, the ones it casts for itself only. -/
abbrev castRect (d : Dev nD) (j : Fin 16) : Rect S16384x1024 :=
  Rect.unit (s := S16384x1024) (k0_off2 d (BitVec.ofNat 32 (256 * j.val))) S256x1024.size (k0_off2_inb d j)
abbrev sendRect (d : Dev nD) (j : Fin 16) : Rect S16384x1024 :=
  Rect.unit (s := S16384x1024) (k0_off3 d (BitVec.ofNat 32 (256 * j.val))) S256x1024.size (k0_off3_inb d j)
abbrev fwdRect (d : Dev nD) (j : Fin 16) : Rect S16384x1024 :=
  Rect.unit (s := S16384x1024) (k0_off5 d (BitVec.ofNat 32 (256 * j.val))) S256x1024.size (k0_off5_inb d j)
abbrev ownRect (d : Dev nD) (j : Fin 16) : Rect S16384x1024 :=
  Rect.unit (s := S16384x1024) (k0_off6 d (BitVec.ofNat 32 (256 * j.val))) S256x1024.size (k0_off6_inb d j)

abbrev semAt (a : DmaSems sig S16) (j : Fin 16) : DmaSem sig :=
  ((a.slice (Rect.unit (s := S16) ![j.val] S1.size (inb_sem j))).squeeze S_ squeezes_S1_S_).sem

/-- The three memrefs as the pipeline hands them to the kernel. -/
abbrev xM : Memref sig .tc .hbm S8192x1024 .f32 := Memref.whole main_arg0
abbrev oM : Memref sig .tc .vmem S16384x1024 .bf16 := Memref.whole cc0_stg0_0
abbrev sM : Memref sig .tc .vmem S4096x1024 .f32 := Memref.whole cc0_scratch0
theorem oW : oM.IsWhole := Memref.isWhole_whole _

abbrev stageM (j : Fin 16) : Memref sig .tc .vmem S256x1024 .f32 := sM.slice (stageRect j) (fun _ => rfl)
abbrev nearM (d : Dev nD) (j : Fin 16) : Memref sig .tc .hbm S256x1024 .f32 := xM.slice (nearRect d j) (fun _ => rfl)
abbrev farM (d : Dev nD) (j : Fin 16) : Memref sig .tc .hbm S256x1024 .f32 := xM.slice (farRect d j) (fun _ => rfl)
abbrev sendM (d : Dev nD) (j : Fin 16) : Memref sig .tc .vmem S256x1024 .bf16 := oM.slice (sendRect d j) (fun _ => rfl)
abbrev fwdM (d : Dev nD) (j : Fin 16) : Memref sig .tc .vmem S256x1024 .bf16 := oM.slice (fwdRect d j) (fun _ => rfl)

abbrev inS (j : Fin 16) : DmaSem sig := semAt cc0_scratch1 j
abbrev ysS (j : Fin 16) : DmaSem sig := semAt cc0_scratch2 j
abbrev yrS (j : Fin 16) : DmaSem sig := semAt cc0_scratch3 j
abbrev xsS (j : Fin 16) : DmaSem sig := semAt cc0_scratch4 j
abbrev xrS (j : Fin 16) : DmaSem sig := semAt cc0_scratch5 j
abbrev barS : Sem sig := (SemArray.scalar (sig.barrier 0 rfl) : Sems sig S_).sem

/-- The neighbours the kernel computes: across `y`, across `x`. -/
abbrev yDev (d : Dev nD) : Dev nD := ⟨k0_dev1 d, k0_dev1_lt d⟩
abbrev xDev (d : Dev nD) : Dev nD := ⟨k0_dev2 d, k0_dev2_lt d⟩

/-! ## The steps -/

/-- Run `f` at each member of a list. -/
def each {E : Type → Type} (f : Fin 16 → Prog E PUnit) : List (Fin 16) → Prog E PUnit
  | [] => pure ⟨⟩
  | j :: l => do f j; each f l

abbrev chunks : List (Fin 16) := [0, 1, 2, 3, 4, 5, 6, 7, 8, 9, 10, 11, 12, 13, 14, 15]

def stepLoad (d : Dev nD) (j : Fin 16) : Prog (TpuEff nD τ sig (Elt F) Λ₀ .tc) PUnit :=
  Prog.lift (.enqueueDma (nearM d j) (.here (stageM j)) (.dma (inS j)) (View.wordExact_bits rfl) (View.wordExact_bits rfl) ⟨Or.inl rfl, trivial⟩)

def stepMeet (d : Dev nD) : Prog (TpuEff nD τ sig (Elt F) Λ₀ .tc) PUnit := do
  semSignalWord (yDev d) barS 1#32
  semSignalWord (xDev d) barS 1#32
  semWaitWord barS 2#32

def stepSend (d : Dev nD) (j : Fin 16) : Prog (TpuEff nD τ sig (Elt F) Λ₀ .tc) PUnit := do
  Prog.lift (.waitDma2 (inS j) (nearM d j) (stageM j) (View.wordExact_bits rfl) (View.wordExact_bits rfl))
  let v : Vec F S256x1024 .f32 ← Prog.lift (.load sM (stageRect j).toLoadRect (View.loadsAt_vmem h_S256x1024))
  let _o : Vec F S256x1024 .bf16 ← Prog.lift (.load oM (castRect d j).toLoadRect (View.loadsAt_vmem h_S256x1024))
  Prog.lift (.store oM (castRect d j) (k0_pay1 v) Finset.univ (View.stores_vmem h_S256x1024 (oW.storeExact_slice rfl _ (k0_off2_packedbf16 d j)) (fun _ => rfl)) (.inl rfl))
  Prog.lift (.enqueueDma (sendM d j) (.remote (Dev.tc (yDev d)) (sendM d j) (.dma (ysS j))) (.dma (yrS j))
    (oW.wordExact_slice rfl _ (k0_off3_wordsbf16 d j)) (oW.wordExact_slice rfl _ (k0_off3_wordsbf16 d j)) ⟨⟨rfl, Or.inl rfl⟩, trivial⟩)
  Prog.lift (.enqueueDma (farM d j) (.here (stageM j)) (.dma (inS j)) (View.wordExact_bits rfl) (View.wordExact_bits rfl) ⟨Or.inl rfl, trivial⟩)

def stepForward (d : Dev nD) (j : Fin 16) : Prog (TpuEff nD τ sig (Elt F) Λ₀ .tc) PUnit := do
  Prog.lift (.waitDma2 (yrS j) (sendM d j) (sendM d j) (oW.wordExact_slice rfl _ (k0_off3_wordsbf16 d j)) (oW.wordExact_slice rfl _ (k0_off3_wordsbf16 d j)))
  Prog.lift (.enqueueDma (fwdM d j) (.remote (Dev.tc (xDev d)) (fwdM d j) (.dma (xsS j))) (.dma (xrS j))
    (oW.wordExact_slice rfl _ (k0_off5_wordsbf16 d j)) (oW.wordExact_slice rfl _ (k0_off5_wordsbf16 d j)) ⟨⟨rfl, Or.inl rfl⟩, trivial⟩)
  Prog.lift (.waitDma2 (inS j) (farM d j) (stageM j) (View.wordExact_bits rfl) (View.wordExact_bits rfl))
  let v : Vec F S256x1024 .f32 ← Prog.lift (.load sM (stageRect j).toLoadRect (View.loadsAt_vmem h_S256x1024))
  let _o : Vec F S256x1024 .bf16 ← Prog.lift (.load oM (ownRect d j).toLoadRect (View.loadsAt_vmem h_S256x1024))
  Prog.lift (.store oM (ownRect d j) (k0_pay1 v) Finset.univ (View.stores_vmem h_S256x1024 (oW.storeExact_slice rfl _ (k0_off6_packedbf16 d j)) (fun _ => rfl)) (.inl rfl))

def stepDrain (d : Dev nD) (j : Fin 16) : Prog (TpuEff nD τ sig (Elt F) Λ₀ .tc) PUnit := do
  Prog.lift (.waitDma2 (xrS j) (fwdM d j) (fwdM d j) (oW.wordExact_slice rfl _ (k0_off5_wordsbf16 d j)) (oW.wordExact_slice rfl _ (k0_off5_wordsbf16 d j)))
  Prog.lift (.waitDma2 (ysS j) (sendM d j) (sendM d j) (oW.wordExact_slice rfl _ (k0_off3_wordsbf16 d j)) (oW.wordExact_slice rfl _ (k0_off3_wordsbf16 d j)))
  Prog.lift (.waitDma2 (xsS j) (fwdM d j) (fwdM d j) (oW.wordExact_slice rfl _ (k0_off5_wordsbf16 d j)) (oW.wordExact_slice rfl _ (k0_off5_wordsbf16 d j)))

def stepsOf (d : Dev nD) : Prog (TpuEff nD τ sig (Elt F) Λ₀ .tc) PUnit := do
  each (stepLoad d) chunks
  stepMeet d
  each (stepSend d) chunks
  each (stepForward d) chunks
  each (stepDrain d) chunks

def body : Prog (TpuEff nD τ sig (Elt F) Λ₀ .tc) PUnit := do
  let d : Dev nD ← Prog.lift .deviceId
  stepsOf d

set_option maxRecDepth 100000 in
/-- The kernel function, as the pipeline calls it, is the steps. -/
theorem body_eq : cc0_body (F := F) xM (Memref.isWhole_whole _) oM (Memref.isWhole_whole _) sM (Memref.isWhole_whole _)
    cc0_scratch1 cc0_scratch2 cc0_scratch3 cc0_scratch4 cc0_scratch5 = body := rfl

end Cert.GatherProof
-- ==== Proof.Pieces.lean ====
/-
  The mesh and the row blocks. Device `c` of the 2 × 2 × 2 mesh sits at (x, y, z) = (c / 4, c / 2 mod 2, c mod 2).
  The result is four quarters of 4096 rows, a quarter sixteen chunks of 256 rows; the argument and the stage are
  cut into the same chunks. `gathered` is what every device's result holds at the end, and the lemmas here say of
  each transfer and each store that on its chunk it leaves exactly that.
-/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen
open Idealize.ShloMosaic Idealize.ShloMosaic.TcCoe
open Idealize.SL.Sem

variable {F : FTy → Type} [FloatOps F]

/-! ## Neighbours and quarters -/

set_option backward.proofsInPublic true in
/-- The device across `y`. -/
def yp (c : Dev nD) : Dev nD := ⟨((4 * (c.val / 4) + c.val % 2 + 2) - 2 * ((c.val / 2) % 2)) % 8, Nat.mod_lt _ (by decide)⟩
set_option backward.proofsInPublic true in
/-- The device across `x`. -/
def xp (c : Dev nD) : Dev nD := ⟨((2 * ((c.val / 2) % 2) + c.val % 2 + 4) - 4 * (c.val / 4)) % 8, Nat.mod_lt _ (by decide)⟩

theorem yp_yp (c : Dev nD) : yp (yp c) = c := by revert c; decide
theorem xp_xp (c : Dev nD) : xp (xp c) = c := by revert c; decide
theorem xp_yp (c : Dev nD) : xp (yp c) = yp (xp c) := by revert c; decide
theorem yp_ne_xp (c : Dev nD) : yp c ≠ xp c := by revert c; decide
theorem yp_ne (c : Dev nD) : yp c ≠ c := by revert c; decide

theorem yDev_eq (c : Dev nD) : yDev c = yp c := by
  refine Fin.ext ((k0_dev1_eq c).trans ?_); revert c; decide
theorem xDev_eq (c : Dev nD) : xDev c = xp c := by
  refine Fin.ext ((k0_dev2_eq c).trans ?_); revert c; decide

def acrossY : Dev nD ≃ Dev nD := ⟨yp, yp, yp_yp, yp_yp⟩
def acrossX : Dev nD ≃ Dev nD := ⟨xp, xp, xp_xp, xp_xp⟩

set_option backward.proofsInPublic true in
/-- The quarter of the result that device `c` casts and sends: number 2 y + x. -/
def qd (c : Dev nD) : Fin 4 := ⟨2 * ((c.val / 2) % 2) + (c.val / 4) % 2, by omega⟩
set_option backward.proofsInPublic true in
/-- The half of its argument it casts first. -/
def hf (c : Dev nD) : Fin 2 := ⟨(c.val / 4) % 2, Nat.mod_lt _ (by decide)⟩

theorem quarters_univ (c : Dev nD) : (Finset.univ : Finset (Fin 4)) = [qd c, qd (xp c), qd (yp c), qd (yp (xp c))].toFinset := by
  revert c; decide
theorem quarters_nodup (c : Dev nD) : [qd c, qd (xp c), qd (yp c), qd (yp (xp c))].Nodup := by revert c; decide
theorem halves_univ (c : Dev nD) : (Finset.univ : Finset (Fin 2)) = [hf c, hf (xp c)].toFinset := by revert c; decide
theorem halves_nodup (c : Dev nD) : [hf c, hf (xp c)].Nodup := by revert c; decide

/-- Whose argument the rows of quarter `q` of device `c`'s result come from: its own for the two quarters of its own
    `y`, otherwise the device across `y` of whoever cast them. -/
def src (c : Dev nD) (q : Fin 4) : Dev nD :=
  if q = qd c ∨ q = qd (xp c) then c else if q = qd (yp c) then yp c else yp (xp c)

theorem src_own (c : Dev nD) : src c (qd c) = c := by revert c; decide
theorem src_own' (c : Dev nD) : src c (qd (xp c)) = c := by revert c; decide
/-- What the device across `y` receives is what `c` cast. -/
theorem src_yp (c : Dev nD) : src (yp c) (qd c) = src c (qd c) := by revert c; decide
/-- What the device across `x` is forwarded is what `c` received. -/
theorem src_xp (c : Dev nD) : src (xp c) (qd (yp c)) = src c (qd (yp c)) := by revert c; decide
/-- The rows of a quarter come from a device of the quarter's `y`. -/
theorem src_y (c : Dev nD) (q : Fin 4) : ((src c q).val / 2) % 2 = q.val / 2 := by revert c q; decide

/-! ## Chunks -/

theorem pieceInb (q : Fin 4) (j : Fin 16) : ∀ a, (![4096 * q.val + 256 * j.val, 0] : Fin 2 → Nat) a + S256x1024.size a ≤ S16384x1024.size a := by
  revert q j; decide
theorem argInb (h : Fin 2) (j : Fin 16) : ∀ a, (![4096 * h.val + 256 * j.val, 0] : Fin 2 → Nat) a + S256x1024.size a ≤ S8192x1024.size a := by
  revert h j; decide
theorem halfInb (h : Fin 2) : ∀ a, (![4096 * h.val, 0] : Fin 2 → Nat) a + S4096x1024.size a ≤ S8192x1024.size a := by
  revert h; decide

/-- Chunk `j` of quarter `q` of the result; of half `h` of the argument; half `h` of the argument. -/
def pieceRect (q : Fin 4) (j : Fin 16) : Rect S16384x1024 := Rect.unit (s := S16384x1024) ![4096 * q.val + 256 * j.val, 0] S256x1024.size (pieceInb q j)
def argRect (h : Fin 2) (j : Fin 16) : Rect S8192x1024 := Rect.unit (s := S8192x1024) ![4096 * h.val + 256 * j.val, 0] S256x1024.size (argInb h j)
abbrev halfRect (h : Fin 2) : Rect S8192x1024 := Rect.unit (s := S8192x1024) ![4096 * h.val, 0] S4096x1024.size (halfInb h)

theorem vec_congr {a b : Nat} (h : a = b) : (![a, 0] : Fin 2 → Nat) = ![b, 0] := by rw [h]

theorem qd_val (c : Dev nD) : 4096 * (qd c).val = 8192 * ((c.val / 2) % 2) + 4096 * (c.val / 4) := by revert c; decide
theorem qd_yp_val (c : Dev nD) : 4096 * (qd (yp c)).val = 4096 * (c.val / 4) + 8192 - 8192 * ((c.val / 2) % 2) := by revert c; decide
theorem qd_xp_val (c : Dev nD) : 4096 * (qd (xp c)).val = 8192 * ((c.val / 2) % 2) + 4096 - 4096 * (c.val / 4) := by revert c; decide
theorem hf_val (c : Dev nD) : (hf c).val = c.val / 4 := by revert c; decide
theorem hf_xp_val (c : Dev nD) : 4096 * (hf (xp c)).val = 4096 - 4096 * (c.val / 4) := by revert c; decide
theorem x_le (c : Dev nD) : c.val / 4 ≤ 1 := by have := c.isLt; unfold nD at this; omega
theorem y_le (c : Dev nD) : (c.val / 2) % 2 ≤ 1 := by omega

/-! Where the chunks the steps name begin. -/

theorem cast_off (c : Dev nD) (j : Fin 16) : k0_off2 c (BitVec.ofNat 32 (256 * j.val)) = ![4096 * (qd c).val + 256 * j.val, 0] :=
  (k0_off2_eq c j).trans (vec_congr (by rw [qd_val]))
theorem send_off (c : Dev nD) (j : Fin 16) : k0_off3 c (BitVec.ofNat 32 (256 * j.val)) = ![4096 * (qd c).val + 256 * j.val, 0] :=
  (k0_off3_eq c j).trans (vec_congr (by rw [qd_val]))
theorem fwd_off (c : Dev nD) (j : Fin 16) : k0_off5 c (BitVec.ofNat 32 (256 * j.val)) = ![4096 * (qd (yp c)).val + 256 * j.val, 0] :=
  (k0_off5_eq c j).trans (vec_congr (by rw [qd_yp_val]; have := y_le c; omega))
theorem own_off (c : Dev nD) (j : Fin 16) : k0_off6 c (BitVec.ofNat 32 (256 * j.val)) = ![4096 * (qd (xp c)).val + 256 * j.val, 0] :=
  (k0_off6_eq c j).trans (vec_congr (by rw [qd_xp_val]; have := x_le c; omega))
theorem near_off (c : Dev nD) (j : Fin 16) : k0_off1 c (BitVec.ofNat 32 (256 * j.val)) = ![4096 * (hf c).val + 256 * j.val, 0] :=
  (k0_off1_eq c j).trans (vec_congr (by rw [hf_val]))
theorem far_off (c : Dev nD) (j : Fin 16) : k0_off4 c (BitVec.ofNat 32 (256 * j.val)) = ![4096 * (hf (xp c)).val + 256 * j.val, 0] :=
  (k0_off4_eq c j).trans (vec_congr (by rw [hf_xp_val]; have := x_le c; omega))

/-! ## The chunks tile their buffers -/

set_option backward.proofsInPublic true in
def pieceOf (i : S16384x1024.Idx) : Fin 4 × Fin 16 :=
  (⟨(i 0).val / 4096 % 4, Nat.mod_lt _ (by decide)⟩, ⟨(i 0).val / 256 % 16, Nat.mod_lt _ (by decide)⟩)
set_option backward.proofsInPublic true in
def argOf (i : S8192x1024.Idx) : Fin 2 × Fin 16 :=
  (⟨(i 0).val / 4096 % 2, Nat.mod_lt _ (by decide)⟩, ⟨(i 0).val / 256 % 16, Nat.mod_lt _ (by decide)⟩)
set_option backward.proofsInPublic true in
def stageOf (i : S4096x1024.Idx) : Fin 16 := ⟨(i 0).val / 256 % 16, Nat.mod_lt _ (by decide)⟩

theorem mem_piece (t : Fin 4 × Fin 16) (i : S16384x1024.Idx) : i ∈ (pieceRect t.1 t.2).set ↔ pieceOf i = t := by
  have h0 : (i 0).val < 16384 := (i 0).isLt
  have h1 : (i 1).val < 1024 := (i 1).isLt
  obtain ⟨⟨q, hq⟩, ⟨j, hj⟩⟩ := t
  unfold pieceRect pieceOf
  rw [Rect.mem_set_unit, Prod.mk.injEq, Fin.mk.injEq, Fin.mk.injEq]
  constructor
  · intro h
    have := h 0
    simp only [Matrix.cons_val_zero] at this
    have hs : S256x1024.size 0 = 256 := rfl
    omega
  · rintro ⟨ha, hb⟩ a
    fin_cases a
    · show 4096 * q + 256 * j ≤ (i 0).val ∧ (i 0).val < 4096 * q + 256 * j + 256; omega
    · show 0 ≤ (i 1).val ∧ (i 1).val < 0 + 1024; omega

theorem mem_arg (t : Fin 2 × Fin 16) (i : S8192x1024.Idx) : i ∈ (argRect t.1 t.2).set ↔ argOf i = t := by
  have h0 : (i 0).val < 8192 := (i 0).isLt
  have h1 : (i 1).val < 1024 := (i 1).isLt
  obtain ⟨⟨q, hq⟩, ⟨j, hj⟩⟩ := t
  unfold argRect argOf
  rw [Rect.mem_set_unit, Prod.mk.injEq, Fin.mk.injEq, Fin.mk.injEq]
  constructor
  · intro h
    have := h 0
    simp only [Matrix.cons_val_zero] at this
    have hs : S256x1024.size 0 = 256 := rfl
    omega
  · rintro ⟨ha, hb⟩ a
    fin_cases a
    · show 4096 * q + 256 * j ≤ (i 0).val ∧ (i 0).val < 4096 * q + 256 * j + 256; omega
    · show 0 ≤ (i 1).val ∧ (i 1).val < 0 + 1024; omega

theorem mem_stage (j : Fin 16) (i : S4096x1024.Idx) : i ∈ (stageRect j).set ↔ stageOf i = j := by
  have h0 : (i 0).val < 4096 := (i 0).isLt
  have h1 : (i 1).val < 1024 := (i 1).isLt
  obtain ⟨j, hj⟩ := j
  unfold stageRect stageOf
  rw [Rect.mem_set_unit, Fin.mk.injEq]
  constructor
  · intro h
    have := h 0
    simp only [Matrix.cons_val_zero] at this
    have hs : S256x1024.size 0 = 256 := rfl
    omega
  · rintro ha a
    fin_cases a
    · show 256 * j ≤ (i 0).val ∧ (i 0).val < 256 * j + 256; omega
    · show 0 ≤ (i 1).val ∧ (i 1).val < 0 + 1024; omega

/-! ## Contents -/

variable (m : (ℓ : Loc nD τ sig) → Buf (Elt F) ℓ)

/-- Device `c`'s argument. -/
def xAt (c : Dev nD) : Buf (Elt F) ((c : Thread nD τ).loc main_arg0) := m ((c : Thread nD τ).loc main_arg0)

/-- Half `h` of its argument, as the stage holds it. -/
def staged (c : Dev nD) (h : Fin 2) : Buf (Elt F) ((c : Thread nD τ).loc cc0_scratch0) := fun i => xAt m c ((halfRect h).emb i)

set_option backward.proofsInPublic true in
/-- A row of the result as a row of the argument it was cast from. -/
def wrap (i : S16384x1024.Idx) : S8192x1024.Idx := fun a => ⟨(i a).val % S8192x1024.size a, Nat.mod_lt _ (by revert a; decide)⟩

/-- One element cast to the result's type. -/
def castElt (v : F .f32) : F .bf16 := FloatOps.truncf .bf16 bitsLt_bf16_f32 v

/-- What device `c`'s result holds at the end. -/
def gathered (c : Dev nD) : Buf (Elt F) ((c : Thread nD τ).loc cc0_stg0_0) :=
  fun i => castElt (xAt m (src c (pieceOf i).1) (wrap i))

/-- A whole buffer's chunk, copied onto the same chunk of another of its shape. -/
theorem copy_same (b : Ref sig .tc) (r : Rect b.ty.shape) (fd fs : b.ty.Contents (Elt F)) (i : b.ty.Idx)
    (hi : i ∈ ((View.whole b).slice r).set) :
    ((View.whole b).slice r).write (Elt F) fd (((View.whole b).slice r).read (Elt F) fs) Finset.univ i = fs i := by
  obtain ⟨y, -, rfl⟩ := Finset.mem_map.mp hi
  rw [View.write_emb_of_mem _ _ (Finset.mem_univ y), View.read_apply, cast_cast, cast_eq]

/-- Where a chunk's element lies, along an axis. -/
theorem emb_unit_val {s : Shape} {off size : Fin s.rank → Nat} (inb : ∀ a, off a + size a ≤ s.size a) (y : (Rect.unit (s := s) off size inb).shape.Idx)
    (a : Fin s.rank) : ((Rect.unit (s := s) off size inb).emb y a : Nat) = off a + (y a : Nat) := by
  rw [Rect.emb_apply]; show off a + 1 * _ = _; rw [Nat.one_mul]

theorem half_stage (h : Fin 2) (j : Fin 16) (y : S256x1024.Idx) : (halfRect h).emb ((stageRect j).emb y) = (argRect h j).emb y := by
  funext a
  refine Fin.ext ?_
  unfold argRect
  rw [emb_unit_val, emb_unit_val, emb_unit_val]
  fin_cases a
  · show 4096 * h.val + (256 * j.val + (y 0).val) = 4096 * h.val + 256 * j.val + (y 0).val; omega
  · show 0 + (0 + (y 1).val) = 0 + (y 1).val; omega

/-- A local copy of chunk `j` of half `h` leaves the chunk of the staged half. -/
theorem load_chunk (c : Dev nD) (h : Fin 2) (j : Fin 16)
    (fd : (cc0_scratch0 : Ref sig .tc).ty.Contents (Elt F)) (w : S256x1024.Idx → Elt F .f32)
    (hw : ∀ y : S256x1024.Idx, w y = xAt m c ((argRect h j).emb y))
    (i : (cc0_scratch0 : Ref sig .tc).ty.Idx) (hi : i ∈ (stageM j).view.set) :
    (stageM j).view.write (Elt F) fd w Finset.univ i = staged m c h i := by
  obtain ⟨y, -, rfl⟩ := Finset.mem_map.mp hi
  rw [View.write_emb_of_mem _ _ (Finset.mem_univ y)]
  show w y = xAt m c ((halfRect h).emb ((stageRect j).emb y))
  rw [hw y, half_stage]

theorem piece_val (q : Fin 4) (j : Fin 16) (y : S256x1024.Idx) (a : Fin 2) :
    ((pieceRect q j).emb y a : Nat) = (![4096 * q.val + 256 * j.val, 0] : Fin 2 → Nat) a + (y a : Nat) := emb_unit_val (s := S16384x1024) (pieceInb q j) y a
theorem arg_val (h : Fin 2) (j : Fin 16) (y : S256x1024.Idx) (a : Fin 2) :
    ((argRect h j).emb y a : Nat) = (![4096 * h.val + 256 * j.val, 0] : Fin 2 → Nat) a + (y a : Nat) := emb_unit_val (s := S8192x1024) (argInb h j) y a

theorem wrap_piece (q : Fin 4) (h : Fin 2) (j : Fin 16) (hq : q.val % 2 = h.val) (y : S256x1024.Idx) :
    wrap ((pieceRect q j).emb y) = (argRect h j).emb y := by
  funext a
  refine Fin.ext ?_
  show ((pieceRect q j).emb y a : Nat) % S8192x1024.size a = ((argRect h j).emb y a : Nat)
  rw [piece_val, arg_val]
  have h0 : (y 0).val < 256 := (y 0).isLt
  have h1 : (y 1).val < 1024 := (y 1).isLt
  have := q.isLt; have := j.isLt
  fin_cases a
  · show (4096 * q.val + 256 * j.val + (y 0).val) % 8192 = 4096 * h.val + 256 * j.val + (y 0).val; omega
  · show (0 + (y 1).val) % 1024 = 0 + (y 1).val; omega

/-- Storing the cast of chunk `j` of the staged half `h` over chunk `j` of a quarter it belongs to leaves the chunk
    of the final result. -/
theorem store_chunk (c : Dev nD) (q : Fin 4) (h : Fin 2) (j : Fin 16) (hq : q.val % 2 = h.val) (hs : src c q = c)
    (r : Rect S16384x1024) (hr : r = pieceRect q j)
    (fd : (cc0_stg0_0 : Ref sig .tc).ty.Contents (Elt F)) (i : (cc0_stg0_0 : Ref sig .tc).ty.Idx) (hi : i ∈ (pieceRect q j).set)
    (w : r.shape.Idx → Elt F .bf16)
    (hw : ∀ (y : r.shape.Idx) (y' : S256x1024.Idx), r.emb y = (pieceRect q j).emb y' → w y = castElt (staged m c h ((stageRect j).emb y'))) :
    ((oM : Memref sig .tc .vmem S16384x1024 .bf16).access r : View sig .tc _ _ _).write (Elt F) fd w Finset.univ i = gathered m c i := by
  subst hr
  rw [← Rect.map_emb_univ] at hi
  obtain ⟨y, -, rfl⟩ := Finset.mem_map.mp hi
  have := View.write_emb_of_mem (Val := Elt F) (v := ((oM : Memref sig .tc .vmem S16384x1024 .bf16).access (pieceRect q j) : View sig .tc _ _ _)) fd w (Finset.mem_univ y)
  refine Eq.trans this ?_
  show w y = castElt (xAt m (src c (pieceOf ((pieceRect q j).emb y)).1) (wrap ((pieceRect q j).emb y)))
  have hp : pieceOf ((pieceRect q j).emb y) = (q, j) :=
    (mem_piece (q, j) _).mp (by rw [← Rect.map_emb_univ]; exact Finset.mem_map_of_mem _ (Finset.mem_univ y))
  rw [hp, hs]
  refine (hw y y rfl).trans (congrArg (fun k => castElt (xAt m c k)) ?_)
  exact (half_stage h j y).trans (wrap_piece q h j hq y).symm

/-- What a transfer across `y` leaves is the receiver's final result on that chunk; -/
theorem gathered_yp (c : Dev nD) (j : Fin 16) (i : S16384x1024.Idx) (hi : i ∈ (pieceRect (qd c) j).set) :
    gathered m c i = gathered m (yp c) i := by
  have hp := (mem_piece (qd c, j) i).mp hi
  show castElt (xAt m (src c (pieceOf i).1) (wrap i)) = castElt (xAt m (src (yp c) (pieceOf i).1) (wrap i))
  rw [hp, src_yp]
/-- and so is what a transfer across `x` leaves. -/
theorem gathered_xp (c : Dev nD) (j : Fin 16) (i : S16384x1024.Idx) (hi : i ∈ (pieceRect (qd (yp c)) j).set) :
    gathered m c i = gathered m (xp c) i := by
  have hp := (mem_piece (qd (yp c), j) i).mp hi
  show castElt (xAt m (src c (pieceOf i).1) (wrap i)) = castElt (xAt m (src (xp c) (pieceOf i).1) (wrap i))
  rw [hp, src_xp]

end Cert.GatherProof
-- ==== Proof.Sched.lean ====
/-
  The protocol. Every semaphore of every device is one cell of the rounds library. The barrier's cell has one round of
  two duties, one per neighbour: each hands over the chunks of its result that the cell's owner will write by
  transfers. A receive cell's duty delivers the chunk as it finally is, a send cell's gives the sent chunk back, and
  a local copy's cell has two rounds, the first and the second half of the argument.
-/
module

public import proofs.«01_k».proof.Proof.Pieces

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores by what they are for -/

/-- What a semaphore of a device is for: the barrier; the local copies, the sends and receives across `y` and across
    `x` of a chunk; none of these. -/
inductive Role where
  | bar
  | load (j : Fin 16)
  | sendY (j : Fin 16)
  | recvY (j : Fin 16)
  | sendX (j : Fin 16)
  | recvX (j : Fin 16)
  | other
  deriving DecidableEq

set_option backward.proofsInPublic true in
def role : SemLoc sig → Role
  | .reg s => if s = barS then .bar else .other
  | .dma q =>
    let j : Fin 16 := ⟨(q.val + 15) % 16, Nat.mod_lt _ (by decide)⟩
    match (q.val + 15) / 16 with
    | 1 => .load j | 2 => .sendY j | 3 => .recvY j | 4 => .sendX j | 5 => .recvX j | _ => .other

theorem role_bar : role (.reg barS) = .bar := by decide
theorem role_load (j : Fin 16) : role (.dma (inS j)) = .load j := by revert j; decide
theorem role_sendY (j : Fin 16) : role (.dma (ysS j)) = .sendY j := by revert j; decide
theorem role_recvY (j : Fin 16) : role (.dma (yrS j)) = .recvY j := by revert j; decide
theorem role_sendX (j : Fin 16) : role (.dma (xsS j)) = .sendX j := by revert j; decide
theorem role_recvX (j : Fin 16) : role (.dma (xrS j)) = .recvX j := by revert j; decide
theorem role_stage : role (.dma cc0_sem0_0) = .other := by decide

/-- The kernel's own semaphores: kind and chunk. -/
def osem (k : Fin 5 × Fin 16) : SemLoc sig :=
  match k.1 with
  | 0 => .dma (inS k.2) | 1 => .dma (ysS k.2) | 2 => .dma (yrS k.2) | 3 => .dma (xsS k.2) | 4 => .dma (xrS k.2)
/-- All of the protocol's: the barrier's and those. -/
def csem : Unit ⊕ (Fin 5 × Fin 16) → SemLoc sig
  | .inl _ => .reg barS
  | .inr k => osem k

def roleOf (k : Fin 5 × Fin 16) : Role :=
  match k.1 with
  | 0 => .load k.2 | 1 => .sendY k.2 | 2 => .recvY k.2 | 3 => .sendX k.2 | 4 => .recvX k.2
theorem role_osem (k : Fin 5 × Fin 16) : role (osem k) = roleOf k := by
  obtain ⟨k, j⟩ := k
  fin_cases k
  · exact role_load j
  · exact role_sendY j
  · exact role_recvY j
  · exact role_sendX j
  · exact role_recvX j
theorem roleOf_injective : Function.Injective roleOf := by
  rintro ⟨k, j⟩ ⟨k', j'⟩ h
  fin_cases k <;> fin_cases k' <;> first | (cases h; rfl) | cases h
theorem osem_injective : Function.Injective osem := fun a b h =>
  roleOf_injective (by rw [← role_osem, ← role_osem, h])

abbrev barC (c : Dev nD) : GSem nD τ sig := ((c : Thread nD τ), .reg barS)
abbrev loadC (c : Dev nD) (j : Fin 16) : GSem nD τ sig := ((c : Thread nD τ), .dma (inS j))
abbrev sendYC (c : Dev nD) (j : Fin 16) : GSem nD τ sig := ((c : Thread nD τ), .dma (ysS j))
abbrev recvYC (c : Dev nD) (j : Fin 16) : GSem nD τ sig := ((c : Thread nD τ), .dma (yrS j))
abbrev sendXC (c : Dev nD) (j : Fin 16) : GSem nD τ sig := ((c : Thread nD τ), .dma (xsS j))
abbrev recvXC (c : Dev nD) (j : Fin 16) : GSem nD τ sig := ((c : Thread nD τ), .dma (xrS j))

/-! ## The chunks as resources -/

/-- Chunk `j` of quarter `q` of device `c`'s result, of half `h` of its argument, of its stage. -/
def outPts (c : Dev nD) (q : Fin 4) (j : Fin 16) (f : Buf (Elt F) ((c : Thread nD τ).loc cc0_stg0_0)) : sProp 𝕄 :=
  ((c : Thread nD τ).loc cc0_stg0_0) ↦[(pieceRect q j).set]{fullShare} f
def argPts (c : Dev nD) (h : Fin 2) (j : Fin 16) (f : Buf (Elt F) ((c : Thread nD τ).loc main_arg0)) : sProp 𝕄 :=
  ((c : Thread nD τ).loc main_arg0) ↦[(argRect h j).set]{fullShare} f
def stagePts (c : Dev nD) (j : Fin 16) (f : Buf (Elt F) ((c : Thread nD τ).loc cc0_scratch0)) : sProp 𝕄 :=
  ((c : Thread nD τ).loc cc0_scratch0) ↦[(stageRect j).set]{fullShare} f

section
omit [FloatOps F]
instance outPts_storable (c : Dev nD) (q j) (f) : BI.Storable (upEmb : UEmb _ 𝕄) (outPts (F := F) c q j f) := by unfold outPts; infer_instance
instance argPts_storable (c : Dev nD) (h j) (f) : BI.Storable (upEmb : UEmb _ 𝕄) (argPts (F := F) c h j f) := by unfold argPts; infer_instance
instance stagePts_storable (c : Dev nD) (j) (f) : BI.Storable (upEmb : UEmb _ 𝕄) (stagePts (F := F) c j f) := by unfold stagePts; infer_instance

theorem outPts_congr (c : Dev nD) (q : Fin 4) (j : Fin 16) {f g : Buf (Elt F) ((c : Thread nD τ).loc cc0_stg0_0)}
    (h : ∀ i ∈ (pieceRect q j).set, f i = g i) : (outPts c q j f : sProp 𝕄) = outPts c q j g := pointsTo_congr h
theorem stagePts_congr (c : Dev nD) (j : Fin 16) {f g : Buf (Elt F) ((c : Thread nD τ).loc cc0_scratch0)}
    (h : ∀ i ∈ (stageRect j).set, f i = g i) : (stagePts c j f : sProp 𝕄) = stagePts c j g := pointsTo_congr h

/-- A buffer held whole is held part by part, for parts told apart by a key. -/
theorem pts_by_key {ℓ : Loc nD τ sig} {T : Type} [Fintype T] [DecidableEq T] (K : T → Finset (Idx ℓ)) (key : Idx ℓ → T)
    (hk : ∀ t i, i ∈ K t ↔ key i = t) (f : Buf (Elt F) ℓ) :
    (ℓ ↦{fullShare} f : sProp 𝕄) = bigSep Finset.univ fun t => ℓ ↦[K t]{fullShare} f := by
  rw [← pointsTo_biUnion Finset.univ K (fun t _ t' _ hne => Finset.disjoint_left.mpr fun i hi hi' => hne (((hk t i).mp hi).symm.trans ((hk t' i).mp hi'))),
    Finset.eq_univ_of_forall fun i => Finset.mem_biUnion.mpr ⟨key i, Finset.mem_univ _, (hk _ i).mpr rfl⟩]

theorem out_split (c : Dev nD) (f : Buf (Elt F) ((c : Thread nD τ).loc cc0_stg0_0)) :
    (((c : Thread nD τ).loc cc0_stg0_0) ↦{fullShare} f : sProp 𝕄)
      = iprop((bigSep Finset.univ fun j => outPts c (qd c) j f) ∗ (bigSep Finset.univ fun j => outPts c (qd (xp c)) j f)
        ∗ (bigSep Finset.univ fun j => outPts c (qd (yp c)) j f) ∗ (bigSep Finset.univ fun j => outPts c (qd (yp (xp c))) j f)) := by
  rw [pts_by_key (ℓ := (c : Thread nD τ).loc cc0_stg0_0) (fun t : Fin 4 × Fin 16 => (pieceRect t.1 t.2).set) pieceOf mem_piece f, bigSep_univ_prod,
    bigSep_univ_eq_bigSepL _ (quarters_univ c) (quarters_nodup c)]
  rfl
theorem arg_split (c : Dev nD) (f : Buf (Elt F) ((c : Thread nD τ).loc main_arg0)) :
    (((c : Thread nD τ).loc main_arg0) ↦{fullShare} f : sProp 𝕄)
      = iprop((bigSep Finset.univ fun j => argPts c (hf c) j f) ∗ (bigSep Finset.univ fun j => argPts c (hf (xp c)) j f)) := by
  rw [pts_by_key (ℓ := (c : Thread nD τ).loc main_arg0) (fun t : Fin 2 × Fin 16 => (argRect t.1 t.2).set) argOf mem_arg f, bigSep_univ_prod,
    bigSep_univ_eq_bigSepL _ (halves_univ c) (halves_nodup c)]
  rfl
theorem stage_split (c : Dev nD) (f : Buf (Elt F) ((c : Thread nD τ).loc cc0_scratch0)) :
    (((c : Thread nD τ).loc cc0_scratch0) ↦{fullShare} f : sProp 𝕄) = bigSep Finset.univ fun j => stagePts c j f := by
  rw [pts_by_key (ℓ := (c : Thread nD τ).loc cc0_scratch0) (fun t : Fin 16 => (stageRect t).set) stageOf mem_stage f]
  rfl
end

/-! ## The schedule -/

/-- The credit of a local copy of a chunk and of a transfer of a cast chunk. -/
abbrev NL : ℕ := (stageM 0).view.dmaCredit
abbrev NT : ℕ := (sendM 0 0).view.dmaCredit
theorem NL_pos : 0 < NL := View.dmaCredit_pos _ (by decide)
theorem NT_pos : 0 < NT := View.dmaCredit_pos _ (by decide)

/-- What the device across `y` hands the owner of a barrier cell: its own chunks of the quarter the owner sends. -/
def meetY (c : Dev nD) : sProp 𝕄 := bigSep Finset.univ fun j : Fin 16 => iprop(∃ f, outPts (F := F) (yp c) (qd c) j f)
/-- What the device across `x` hands it: its own chunks of the quarter the owner forwards. -/
def meetX (c : Dev nD) : sProp 𝕄 := bigSep Finset.univ fun j : Fin 16 => iprop(∃ f, outPts (F := F) (xp c) (qd (yp c)) j f)
/-- What a local copy of half `h` gives: the stage's chunk filled, the argument's back. -/
def loaded (c : Dev nD) (h : Fin 2) (j : Fin 16) : sProp 𝕄 := iprop(stagePts c j (staged m c h) ∗ argPts c h j (xAt m c))
/-- A chunk of the result as it finally is. -/
def done (c : Dev nD) (q : Fin 4) (j : Fin 16) : sProp 𝕄 := outPts c q j (gathered m c)

def rolePay (c : Dev nD) (r : ℕ) (d : Bool) : Role → sProp 𝕄
  | .bar => if d then meetX c else meetY c
  | .load j => if r = 0 then loaded m c (hf c) j else loaded m c (hf (xp c)) j
  | .sendY j => done m c (qd c) j
  | .recvY j => done m c (qd (yp c)) j
  | .sendX j => done m c (qd (yp c)) j
  | .recvX j => done m c (qd (yp (xp c))) j
  | .other => iprop(emp)

def roleDuties : Role → ℕ → Finset Bool
  | .bar, 0 => Finset.univ
  | .load _, 0 => {false} | .load _, 1 => {false}
  | .sendY _, 0 => {false} | .recvY _, 0 => {false} | .sendX _, 0 => {false} | .recvX _, 0 => {false}
  | _, _ => ∅

def roleAmount : Role → ℕ
  | .bar => 1 | .other => 1
  | .load _ => NL
  | _ => NT
theorem roleAmount_pos (a : Role) : 0 < roleAmount a := by
  cases a <;> first | exact Nat.one_pos | exact NL_pos | exact NT_pos

def sched : Rounds.Schedule (GSem nD τ sig) Bool 𝕄 where
  duties g r := if g.1.2 = .tc then roleDuties (role g.2) r else ∅
  unitless _ := False
  amount g _ _ := roleAmount (role g.2)
  payload g r d := rolePay m g.1.1 r d (role g.2)
  amount_pos g _ _ _ := roleAmount_pos _

instance meetY_storable (c : Dev nD) : BI.Storable (upEmb : UEmb _ 𝕄) (meetY (F := F) c) := by unfold meetY; infer_instance
instance meetX_storable (c : Dev nD) : BI.Storable (upEmb : UEmb _ 𝕄) (meetX (F := F) c) := by unfold meetX; infer_instance
instance loaded_storable (c : Dev nD) (h j) : BI.Storable (upEmb : UEmb _ 𝕄) (loaded (F := F) m c h j) := by unfold loaded; infer_instance
instance done_storable (c : Dev nD) (q j) : BI.Storable (upEmb : UEmb _ 𝕄) (done (F := F) m c q j) := by unfold done; infer_instance

theorem ite_storable (p : Prop) [Decidable p] {P Q : sProp 𝕄} (hP : BI.Storable (upEmb : UEmb _ 𝕄) P) (hQ : BI.Storable (upEmb : UEmb _ 𝕄) Q) :
    BI.Storable (upEmb : UEmb _ 𝕄) (if p then P else Q) := by
  by_cases h : p
  · rw [if_pos h]; exact hP
  · rw [if_neg h]; exact hQ

instance rolePay_storable (c : Dev nD) (r : ℕ) (d : Bool) (a : Role) : BI.Storable (upEmb : UEmb _ 𝕄) (rolePay (F := F) m c r d a) := by
  cases a with
  | bar => exact ite_storable _ (meetX_storable c) (meetY_storable c)
  | load j => exact ite_storable _ (loaded_storable m c _ j) (loaded_storable m c _ j)
  | other => unfold rolePay; infer_instance
  | _ j => exact done_storable m c _ j

instance sched_storable (g : GSem nD τ sig) (r : ℕ) (d : Bool) : BI.Storable (upEmb : UEmb _ 𝕄) ((sched (F := F) m).payload g r d) := by
  show BI.Storable upEmb (rolePay m g.1.1 r d (role g.2))
  infer_instance

section Facts

variable (c : Dev nD) (j : Fin 16)

theorem duties_tc (sm : SemLoc sig) (r : ℕ) : (sched (F := F) m).duties ((c : Thread nD τ), sm) r = roleDuties (role sm) r := by
  show (if (c : Thread nD τ).2 = .tc then roleDuties (role sm) r else ∅) = _
  exact if_pos rfl
theorem amount_tc (sm : SemLoc sig) (r : ℕ) (d : Bool) : (sched (F := F) m).amount ((c : Thread nD τ), sm) r d = roleAmount (role sm) := rfl
theorem payload_tc (sm : SemLoc sig) (r : ℕ) (d : Bool) : (sched (F := F) m).payload ((c : Thread nD τ), sm) r d = rolePay m c r d (role sm) := rfl

/-- After its last round a cell has no duty. -/
theorem duties_later (sm : SemLoc sig) (r : ℕ) (h : 2 ≤ r) : (sched (F := F) m).duties ((c : Thread nD τ), sm) r = ∅ := by
  rw [duties_tc]
  obtain _ | _ | r := r
  · omega
  · omega
  · cases role sm <;> rfl
theorem duties_later' (sm : SemLoc sig) (hl : ∀ j, role sm ≠ .load j) (r : ℕ) (h : 1 ≤ r) : (sched (F := F) m).duties ((c : Thread nD τ), sm) r = ∅ := by
  rw [duties_tc]
  obtain _ | _ | r := r
  · omega
  · cases hr : role sm <;> first | rfl | exact absurd hr (hl _)
  · cases role sm <;> rfl

/-- A round of one duty: what is expected, and what the round gives. -/
theorem expect_one (sm : SemLoc sig) (r : ℕ) (h : roleDuties (role sm) r = {false}) :
    (sched (F := F) m).expect ((c : Thread nD τ), sm) r = roleAmount (role sm) := by
  unfold Schedule.expect Schedule.amountOf
  rw [duties_tc, h, Finset.sum_singleton, amount_tc]
theorem rest_one (sm : SemLoc sig) (r : ℕ) (h : roleDuties (role sm) r = {false}) :
    bigSep ((sched (F := F) m).duties ((c : Thread nD τ), sm) r \ ∅) (fun d => (sched (F := F) m).payload ((c : Thread nD τ), sm) r d)
      = rolePay m c r false (role sm) := by
  rw [Finset.sdiff_empty, duties_tc, h, bigSep_singleton, payload_tc]

theorem expect_bar : (sched (F := F) m).expect (barC c) 0 = 2 := by
  unfold Schedule.expect Schedule.amountOf
  rw [duties_tc, role_bar]
  simp only [amount_tc, role_bar]
  rfl
theorem rest_bar : bigSep ((sched (F := F) m).duties (barC c) 0 \ ∅) (fun d => (sched (F := F) m).payload (barC c) 0 d)
    = iprop(meetY c ∗ meetX c) := by
  rw [Finset.sdiff_empty, duties_tc, role_bar]
  show bigSep (Finset.univ : Finset Bool) _ = _
  rw [bigSep_univ_eq_bigSepL [false, true] (by decide) (by decide), bigSepL_cons_cons, bigSepL_singleton, payload_tc, payload_tc, role_bar]
  rfl

theorem payload_bar_false : (sched (F := F) m).payload (barC c) 0 false = meetY c := by rw [payload_tc, role_bar]; rfl
theorem payload_bar_true : (sched (F := F) m).payload (barC c) 0 true = meetX c := by rw [payload_tc, role_bar]; rfl

end Facts

/-! ## What a device owes, and the levels -/

/-- The credits of transfers still to be made, for a list of chunks. -/
def owing (f : Fin 16 → GSem nD τ sig) (l : List (Fin 16)) : CellTallies nD τ sig Unit :=
  (l.map fun j => tallyAt (f j) () NT).sum

theorem owing_cons (f : Fin 16 → GSem nD τ sig) (j : Fin 16) (l : List (Fin 16)) : owing f (j :: l) = owing f l + tallyAt (f j) () NT := by
  unfold owing; rw [List.map_cons, List.sum_cons, add_comm]
theorem owing_nil (f : Fin 16 → GSem nD τ sig) : owing f [] = 0 := rfl

theorem owing_apply (f : Fin 16 → GSem nD τ sig) (g : GSem nD τ sig) (l : List (Fin 16)) :
    owing f l g () = (l.map fun j => if g = f j then NT else 0).sum := by
  induction l with
  | nil => rfl
  | cons j l ih =>
    rw [owing_cons, Pi.add_apply, Finsupp.add_apply, ih, List.map_cons, List.sum_cons, tallyAt_apply, add_comm]
    congr 1
    by_cases h : g = f j
    · rw [if_pos ⟨h, rfl⟩, if_pos h]
    · rw [if_neg fun h' => h h'.1, if_neg h]

theorem owing_pos {f : Fin 16 → GSem nD τ sig} {g : GSem nD τ sig} {u : Unit} {l : List (Fin 16)} (h : 0 < owing f l g u) : ∃ j, g = f j := by
  by_contra hn
  rw [not_exists] at hn
  cases u
  rw [owing_apply, List.sum_eq_zero] at h
  · exact Nat.lt_irrefl 0 h
  · intro x hx
    obtain ⟨j, -, rfl⟩ := List.mem_map.mp hx
    exact if_neg (hn j)

/-- Before the forwards; before the sends; before the two signals; at launch. -/
def oweX (c : Dev nD) (l : List (Fin 16)) : CellTallies nD τ sig Unit := owing (recvXC (xp c)) l
def oweY (c : Dev nD) (l : List (Fin 16)) : CellTallies nD τ sig Unit := oweX c chunks + owing (recvYC (yp c)) l
def O₁ (c : Dev nD) : CellTallies nD τ sig Unit := oweY c chunks + tallyAt (barC (xp c)) () 1
def O₀ (c : Dev nD) : CellTallies nD τ sig Unit := O₁ c + tallyAt (barC (yp c)) () 1

theorem oweX_cons (c : Dev nD) (j : Fin 16) (l : List (Fin 16)) : oweX c (j :: l) = oweX c l + tallyAt (recvXC (xp c) j) () NT := owing_cons _ _ _
theorem oweY_cons (c : Dev nD) (j : Fin 16) (l : List (Fin 16)) : oweY c (j :: l) = oweY c l + tallyAt (recvYC (yp c) j) () NT := by
  unfold oweY; rw [owing_cons, add_assoc]
theorem oweX_nil (c : Dev nD) : oweX c [] = 0 := rfl
theorem oweY_nil (c : Dev nD) : oweY c [] = oweX c chunks := by unfold oweY; rw [owing_nil, add_zero]

def L (g : GSem nD τ sig) : Finset Unit := if g.1.2 = .tc then {()} else ∅
/-- The barrier at level 1, receives across `y` at 2, across `x` at 3, all else at 0. -/
def roleLevel : Role → ℕ
  | .bar => 1 | .recvY _ => 2 | .recvX _ => 3 | _ => 0
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L ((c : Thread nD τ), sm) = {()} := if_pos rfl

/-- `O` is owed to cells above level `n` only. -/
def Above (n : ℕ) (O : CellTallies nD τ sig Unit) : Prop :=
  ∀ g u, 0 < O g u → g.1.2 = .tc ∧ n < lv g u

theorem above_owing (n : ℕ) (f : Fin 16 → GSem nD τ sig) (l : List (Fin 16)) (h : ∀ j, (f j).1.2 = .tc ∧ n < lv (f j) ()) : Above n (owing f l) :=
  fun g u hg => by obtain ⟨j, rfl⟩ := owing_pos hg; exact h j
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_zero (n : ℕ) : Above n 0 := fun g u hg => absurd hg (Nat.lt_irrefl 0)
theorem above_tally (n k : ℕ) (g₀ : GSem nD τ sig) (h : g₀.1.2 = .tc ∧ n < lv g₀ ()) : Above n (tallyAt g₀ () k) := fun g u hg => by
  rw [tallyAt_apply] at hg
  by_cases hh : g = g₀ ∧ u = ()
  · obtain ⟨rfl, rfl⟩ := hh; exact h
  · rw [if_neg hh] at hg; exact absurd hg (Nat.lt_irrefl 0)

theorem lv_recvX (c : Dev nD) (j : Fin 16) : lv (recvXC c j) () = 3 := by unfold lv; rw [role_recvX]; rfl
theorem lv_recvY (c : Dev nD) (j : Fin 16) : lv (recvYC c j) () = 2 := by unfold lv; rw [role_recvY]; rfl
theorem lv_bar (c : Dev nD) : lv (barC c) () = 1 := by unfold lv; rw [role_bar]; rfl

theorem above_oweX (c : Dev nD) (l : List (Fin 16)) (n : ℕ) (hn : n < 3) : Above n (oweX c l) :=
  above_owing n _ l fun j => ⟨rfl, by rw [lv_recvX]; exact hn⟩
theorem above_oweY (c : Dev nD) (l : List (Fin 16)) (n : ℕ) (hn : n < 2) : Above n (oweY c l) :=
  (above_oweX c chunks n (by omega)).add (above_owing n _ l fun j => ⟨rfl, by rw [lv_recvY]; exact hn⟩)
theorem above_O₀ (c : Dev nD) : Above 0 (O₀ c) :=
  ((above_oweY c chunks 0 (by decide)).add (above_tally 0 1 _ ⟨rfl, by rw [lv_bar]; decide⟩)).add (above_tally 0 1 _ ⟨rfl, by rw [lv_bar]; decide⟩)

/-- A device may wait on a cell when everything it owes lies above it. -/
theorem mayWait {c : Dev nD} {sm : SemLoc sig} {n : ℕ} {O : CellTallies nD τ sig Unit} (hO : Above n O) (hn : roleLevel (role sm) ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.GatherProof
-- ==== Proof.Rules.lean ====
/-
  The kernel's effects at the protocol's cells: a local copy, a transfer to a neighbour, a wait for a copy or a
  transfer, and the cast of a staged chunk into the result. Each is stated once, for every chunk and for every
  rectangle that begins where the chunk does.
-/
module

public import proofs.«01_k».proof.Proof.Sched

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What everyone knows -/

abbrev CK : Type := Unit ⊕ (Fin 5 × Fin 16)
abbrev kcell (x : Dev nD × CK) : GSem nD τ sig := ((x.1 : Thread nD τ), csem x.2)

/-- A cell is kept under its invariant, and its first round is reached. -/
def known (g : GSem nD τ sig) : sProp 𝕄 := iprop((∃ κ, cellInv ER (sched m) κ g) ∗ reached ER g 0)
/-- That of every cell, and the levels. -/
def Known : sProp 𝕄 := iprop((bigSep Finset.univ fun x : Dev nD × CK => known m (kcell x)) ∗ levAts L lv)

instance known_persistent (g : GSem nD τ sig) : BI.Persistent (known m g : sProp 𝕄) := by unfold known; infer_instance
instance Known_persistent : BI.Persistent (Known m : sProp 𝕄) := by unfold Known; infer_instance

theorem Known_levAts : (Known m : sProp 𝕄) ⊢ levAts L lv := by
  unfold Known
  iintro ⟨-, H⟩; iexact H
theorem Known_cell (x : Dev nD × CK) : (Known m : sProp 𝕄) ⊢ known m (kcell x) := by
  unfold Known
  refine (sep_mono_left (bigSep_elim (Finset.mem_univ x))).trans ?_
  iintro ⟨H, -⟩; iexact H

theorem known_bar (c : Dev nD) : (Known m : sProp 𝕄) ⊢ known m (barC c) := Known_cell m (c, .inl ())
theorem known_load (c : Dev nD) (j : Fin 16) : (Known m : sProp 𝕄) ⊢ known m (loadC c j) := Known_cell m (c, .inr (0, j))
theorem known_sendY (c : Dev nD) (j : Fin 16) : (Known m : sProp 𝕄) ⊢ known m (sendYC c j) := Known_cell m (c, .inr (1, j))
theorem known_recvY (c : Dev nD) (j : Fin 16) : (Known m : sProp 𝕄) ⊢ known m (recvYC c j) := Known_cell m (c, .inr (2, j))
theorem known_sendX (c : Dev nD) (j : Fin 16) : (Known m : sProp 𝕄) ⊢ known m (sendXC c j) := Known_cell m (c, .inr (3, j))
theorem known_recvX (c : Dev nD) (j : Fin 16) : (Known m : sProp 𝕄) ⊢ known m (recvXC c j) := Known_cell m (c, .inr (4, j))

/-- What a device owes, whatever it has waited on. -/
def owesSome (c : Dev nD) (O : CellTallies nD τ sig Unit) : sProp 𝕄 := iprop(∃ W, owes (c : Thread nD τ) O W)

/-! ## A wait -/

/-- A wait for a cell's round of one duty, of amount `N` and payload `P`. -/
theorem wp_wait (c : Dev nD) (sem : DmaSem sig) (R N : ℕ) (P : sProp 𝕄) (hd : roleDuties (role (.dma sem)) R = {false})
    (hN : roleAmount (role (.dma sem)) = N) (hP : rolePay m c R false (role (.dma sem)) = P)
    {sp sp' : Space} {s s' : Shape} {e e' : EltTy} (src : Memref sig .tc sp' s' e') (dst : Memref sig .tc sp s e) {hsrc} {hdst}
    (hk : dst.view.dmaCredit = N)
    (n : ℕ) {O : CellTallies nD τ sig Unit} (hO : Above n O) (hn : roleLevel (role (.dma sem)) ≤ n)
    {α : Type} {k : PUnit → Prog (TpuEff nD τ sig (Elt F) Λ₀ .tc) α} {Q : α → sProp 𝕄} :
    iprop(Known m ∗ known m ((c : Thread nD τ), .dma sem) ∗ cred (tallyAt ((c : Thread nD τ), .dma sem) () N) ∗ owesSome c O
        ∗ atPos ER ((c : Thread nD τ), .dma sem) R ∅ 0)
      ⊢ iprop(((owesSome c O ∗ atPos ER ((c : Thread nD τ), .dma sem) (R + 1) ∅ 0 ∗ reached ER ((c : Thread nD τ), .dma sem) (R + 1) ∗ P) -∗ WP c (k ⟨⟩) Q)
          -∗ WP c (.op (.waitDma2 sem src dst hsrc hdst) k) Q) := by
  subst hN hP
  unfold known owesSome
  iintro ⟨#HK, ⟨⟨%κ, #HI⟩, -⟩, Hc, ⟨%W, HO⟩, Hat⟩ Hk
  iapply (Rounds.wp_wait_rest_token 𝒱₀ ER (sched m) (c : Thread nD τ) none (κ := κ)
    (wpE_waitDma2_eq 𝒱₀ (c : Thread nD τ) none Set.univ) (Set.mem_univ _) () (O := O) (W := W)
    (R := R) (m := 0) (T := ∅) (by rw [Nat.zero_add, expect_one m c _ R hd, hk])) $$ [Hc HO Hat]
  · isplitr; · iexact HI
    isplitl [Hc]; · rw [hk]; iexact Hc
    isplitl [HO]; · iexact HO
    isplitr; · iapply (mayWait hO hn); iapply (Known_levAts m); iexact HK
    iexact Hat
  iintro ⟨HO, Hat, Hr, Hpay⟩
  ihave Hp := (Entails.of_eq (rest_one m c _ R hd)) $$ Hpay
  iapply Hk
  isplitl [HO]; · iexists _; iexact HO
  isplitl [Hat]; · iexact Hat
  isplitl [Hr]; · iexact Hr
  iexact Hp

/-- A cell past its last round gives its counter back, at zero. -/
theorem close_cell (c : Dev nD) (sm : SemLoc sig) (R : ℕ) (hR : ∀ r, R ≤ r → (sched (F := F) m).duties ((c : Thread nD τ), sm) r = ∅)
    : iprop(known m ((c : Thread nD τ), sm) ∗ atPos ER ((c : Thread nD τ), sm) R ∅ 0)
      ⊢ |={Set.univ}=> (semVal ((c : Thread nD τ), sm) 0 : sProp 𝕄) := by
  unfold known
  iintro ⟨⟨⟨%κ, #HI⟩, -⟩, Hat⟩
  iapply (Rounds.cell_close ER (sched m) (Set.mem_univ κ) (fun h => h) (R := R) hR)
  isplitr; · iexact HI
  iexact Hat

/-! ## A local copy -/

/-- A local copy of chunk `j` of half `h`, paying the round `r` of its cell that the half belongs to. -/
theorem wp_fetch (c : Dev nD) (j : Fin 16) (h : Fin 2) (r : ℕ) (hd : roleDuties (.load j) r = {false})
    (hp : rolePay m c r false (.load j) = loaded m c h j)
    (off : Fin 2 → Nat) (inb : ∀ a, off a + S256x1024.size a ≤ S8192x1024.size a) (ho : off = ![4096 * h.val + 256 * j.val, 0])
    {hst} {hsrc} {hdst} {hsem}
    {α : Type} {k : PUnit → Prog (TpuEff nD τ sig (Elt F) Λ₀ .tc) α} {Q : α → sProp 𝕄} :
    iprop(known m (loadC c j) ∗ argPts c h j (xAt m c) ∗ (∃ f, stagePts c j f) ∗ dutyTok ER (loadC c j) r false ∗ reached ER (loadC c j) r)
      ⊢ iprop((cred (tallyAt (loadC c j) () NL) -∗ WP c (k ⟨⟩) Q)
          -∗ WP c (.op (.enqueueDma (xM.slice (Rect.unit (s := S8192x1024) off S256x1024.size inb) hst : Memref sig .tc .hbm S256x1024 .f32)
              (.here (stageM j)) (.dma (inS j)) hsrc hdst hsem) k) Q) := by
  subst ho
  have hx : (xM.slice (Rect.unit (s := S8192x1024) ![4096 * h.val + 256 * j.val, 0] S256x1024.size inb) hst : Memref sig .tc .hbm S256x1024 .f32).view.set
      = (argRect h j).set := View.set_slice_whole _ _
  have hs : (stageM j).view.set = (stageRect j).set := View.set_slice_whole _ _
  unfold known argPts stagePts
  iintro ⟨⟨⟨%κ, #HI⟩, -⟩, Hx, ⟨%fd, Hs⟩, Ht, Hr⟩ Hk
  iapply (Rounds.wp_copy_pointsTo 𝒱₀ ER (sched m) (c : Thread nD τ) none
    (src := xM.slice (Rect.unit (s := S8192x1024) ![4096 * h.val + 256 * j.val, 0] S256x1024.size inb) hst) (dst := stageM j) (sem := .dma (inS j))
    (q := fullShare) (fs := xAt m c) (fd := fd) (r := r) (d := false) (κ := κ)
    (by rw [duties_tc, role_load, hd]; exact Finset.mem_singleton_self _) () NL rfl
    (by rw [amount_tc, role_load]; rfl)
    (by
      rw [payload_tc, role_load, hp, hx, hs]
      unfold loaded stagePts argPts
      refine sep_mono_left (Entails.of_eq (pointsTo_congr fun i hi => ?_))
      exact load_chunk m c h j fd _ (fun y => rfl) i (by rw [hs]; exact hi))) $$ [Hx Hs Ht Hr]
  · isplitr; · iexact HI
    isplitl [Hx]; · rw [hx]; iexact Hx
    isplitl [Hs]; · rw [hs]; iexact Hs
    isplitl [Ht] <;> iassumption
  iexact Hk

/-! ## A transfer -/

/-- A transfer of chunk `j` of quarter `q` of `c`'s result, as it finally is, onto the same chunk of `n`'s. -/
theorem wp_pass (c n n' : Dev nD) (hn : n' = n) (q : Fin 4) (j : Fin 16) (sS sR : DmaSem sig)
    (hd₁ : roleDuties (role (.dma sS)) 0 = {false}) (hd₂ : roleDuties (role (.dma sR)) 0 = {false})
    (ha₁ : roleAmount (role (.dma sS)) = NT) (ha₂ : roleAmount (role (.dma sR)) = NT)
    (hp₁ : rolePay m c 0 false (role (.dma sS)) = done m c q j) (hp₂ : rolePay m n 0 false (role (.dma sR)) = done m n q j)
    (hg : ∀ i ∈ (pieceRect q j).set, gathered m c i = gathered m n i)
    (off : Fin 2 → Nat) (inb : ∀ a, off a + S256x1024.size a ≤ S16384x1024.size a) (ho : off = ![4096 * q.val + 256 * j.val, 0])
    {O₀ : CellTallies nD τ sig Unit} (O : CellTallies nD τ sig Unit) (hO : O₀ = O + tallyAt ((n : Thread nD τ), .dma sR) () NT)
    {hst} {hst'} {hsc} {hsrc} {hdst} {hsem}
    {α : Type} {k : PUnit → Prog (TpuEff nD τ sig (Elt F) Λ₀ .tc) α} {Q : α → sProp 𝕄} :
    iprop(known m ((c : Thread nD τ), .dma sS) ∗ known m ((n : Thread nD τ), .dma sR) ∗ done m c q j ∗ (∃ f, outPts n q j f) ∗ owesSome c O₀
        ∗ dutyTok ER ((c : Thread nD τ), .dma sS) 0 false ∗ dutyTok ER ((n : Thread nD τ), .dma sR) 0 false)
      ⊢ iprop(((cred (tallyAt ((c : Thread nD τ), .dma sS) () NT) ∗ owesSome c O) -∗ WP c (k ⟨⟩) Q)
          -∗ WP c (.op (.enqueueDma (oM.slice (Rect.unit (s := S16384x1024) off S256x1024.size inb) hst : Memref sig .tc .vmem S256x1024 .bf16)
              (.remote (Dev.tc n') (oM.slice (Rect.unit (s := S16384x1024) off S256x1024.size inb) hst' : Memref sig .tc .vmem S256x1024 .bf16) (.dma sS) hsc)
              (.dma sR) hsrc hdst hsem) k) Q) := by
  subst ho hn
  have hs : (oM.slice (Rect.unit (s := S16384x1024) ![4096 * q.val + 256 * j.val, 0] S256x1024.size inb) hst : Memref sig .tc .vmem S256x1024 .bf16).view.set
      = (pieceRect q j).set := View.set_slice_whole _ _
  unfold known done outPts owesSome
  iintro ⟨⟨⟨%κ₁, #HI₁⟩, #Hr₁⟩, ⟨⟨%κ₂, #HI₂⟩, #Hr₂⟩, Hc, ⟨%fd, Hn⟩, ⟨%W, HO⟩, Ht₁, Ht₂⟩ Hk
  iapply (Rounds.wp_send_pointsTo 𝒱₀ ER (sched m) (c : Thread nD τ) none (c' := Dev.tc n')
    (src := oM.slice (Rect.unit (s := S16384x1024) ![4096 * q.val + 256 * j.val, 0] S256x1024.size inb) hst)
    (dst := oM.slice (Rect.unit (s := S16384x1024) ![4096 * q.val + 256 * j.val, 0] S256x1024.size inb) hst)
    (sS := .dma sS) (sem := .dma sR) (q := fullShare) (fs := gathered m c) (fd := fd) (r₁ := 0) (r₂ := 0) (d₁ := false) (d₂ := false)
    (κ₁ := κ₁) (κ₂ := κ₂)
    (by rw [duties_tc, hd₁]; exact Finset.mem_singleton_self _) (by rw [duties_tc, hd₂]; exact Finset.mem_singleton_self _)
    () () NT rfl (by rw [amount_tc, ha₁]) (by rw [amount_tc, ha₂]) O hO (W := W)
    (by rw [payload_tc, hp₁, hs]; unfold done outPts; exact BI.Entails.refl _)
    (by
      rw [payload_tc, hp₂, hs]; unfold done outPts
      refine Entails.of_eq (pointsTo_congr fun i hi => ?_)
      exact (copy_same cc0_stg0_0 _ fd (gathered m c) i (by rw [View.set_slice_whole]; exact hi)).trans (hg i hi))) $$ [Hc Hn HO Ht₁ Ht₂]
  · isplitr; · iexact HI₁
    isplitr; · iexact HI₂
    isplitl [Hc]; · rw [hs]; iexact Hc
    isplitl [Hn]; · rw [hs]; iexact Hn
    isplitl [HO]; · iexact HO
    isplitl [Ht₁]; · iexact Ht₁
    isplitr; · iexact Hr₁
    isplitl [Ht₂]; · iexact Ht₂
    iexact Hr₂
  iintro ⟨Hcr, HO⟩
  iapply Hk
  isplitl [Hcr]; · iexact Hcr
  iexists W; iexact HO

/-! ## The cast -/

/-- One element of a cast chunk. -/
theorem pay_elt (v : Vec F S256x1024 .f32) (y : S256x1024.Idx) : k0_pay1 v y = castElt (v y) := rfl

/-- The cast chunk, stored. -/
theorem cast_stored (c : Dev nD) (q : Fin 4) (h : Fin 2) (j : Fin 16) (hq : q.val % 2 = h.val) (hs : src c q = c)
    (inb : ∀ a, (![4096 * q.val + 256 * j.val, 0] : Fin 2 → Nat) a + S256x1024.size a ≤ S16384x1024.size a)
    (f : Buf (Elt F) ((c : Thread nD τ).loc cc0_stg0_0)) :
    (((c : Thread nD τ).loc cc0_stg0_0) ↦[(pieceRect q j).set]{fullShare}
        ((oM.access (Rect.unit (s := S16384x1024) ![4096 * q.val + 256 * j.val, 0] S256x1024.size inb) : View sig .tc _ _ _).write (Elt F) f
          (k0_pay1 ((sM.access (stageRect j) : View sig .tc _ _ _).read (Elt F) (staged m c h))) Finset.univ) : sProp 𝕄)
      ⊢ done m c q j := by
  unfold done outPts
  refine Entails.of_eq (pointsTo_congr fun i hi => store_chunk m c q h j hq hs _ rfl f i hi _ fun y y' hy => ?_)
  have hyy : y = y' := (pieceRect q j).emb.injective hy
  subst hyy
  exact pay_elt _ y

/-- The staged chunk `j` of half `h` cast into chunk `j` of a quarter `q` of those rows that `c` casts itself. -/
theorem wp_cast (c : Dev nD) (q : Fin 4) (h : Fin 2) (j : Fin 16) (hq : q.val % 2 = h.val) (hs : src c q = c)
    (off : Fin 2 → Nat) (inb : ∀ a, off a + S256x1024.size a ≤ S16384x1024.size a) (ho : off = ![4096 * q.val + 256 * j.val, 0])
    {hl} {hl'} {hx} {hm}
    {α : Type} {k : PUnit → Prog (TpuEff nD τ sig (Elt F) Λ₀ .tc) α} {Q : α → sProp 𝕄} :
    iprop(stagePts c j (staged m c h) ∗ (∃ f, outPts c q j f))
      ⊢ iprop(((stagePts c j (staged m c h) ∗ done m c q j) -∗ WP c (k ⟨⟩) Q)
          -∗ WP c (.op (.load sM (stageRect j).toLoadRect hl) fun v =>
              .op (.load oM (Rect.unit (s := S16384x1024) off S256x1024.size inb).toLoadRect hl') fun _ =>
              .op (.store oM (Rect.unit (s := S16384x1024) off S256x1024.size inb) (k0_pay1 v) Finset.univ hx hm) k) Q) := by
  subst ho
  have hr : (oM.access (Rect.unit (s := S16384x1024) ![4096 * q.val + 256 * j.val, 0] S256x1024.size inb)).set = (pieceRect q j).set := View.set_slice_whole _ _
  have ht : (sM.access (stageRect j)).set = (stageRect j).set := View.set_slice_whole _ _
  unfold outPts stagePts
  iintro ⟨Hs, ⟨%f, Ho⟩⟩ Hk
  iapply (wp_load_rect 𝒱₀ (c : Thread nD τ) none Set.univ (m := sM) (r := stageRect j) (hS := by rw [ht])) $$ Hs; iintro Hs
  iapply (wp_load_rect 𝒱₀ (c : Thread nD τ) none Set.univ (m := oM)
    (r := Rect.unit (s := S16384x1024) ![4096 * q.val + 256 * j.val, 0] S256x1024.size inb) (hS := by rw [hr])) $$ Ho; iintro Ho
  iapply (wp_store 𝒱₀ (c : Thread nD τ) none Set.univ (m := oM)
    (r := Rect.unit (s := S16384x1024) ![4096 * q.val + 256 * j.val, 0] S256x1024.size inb) (Mk := Finset.univ) (S := (pieceRect q j).set)
    (hS := by rw [View.setOn_univ, hr])) $$ Ho; iintro Ho
  iapply Hk
  isplitl [Hs]; · iexact Hs
  iapply (cast_stored m c q h j hq hs inb f) $$ Ho

end Cert.GatherProof
-- ==== Proof.Loops.lean ====
/-
  The kernel's steps, one lemma each: what a step takes, what it leaves; then the same for a loop over the chunks.
-/
module

public import proofs.«01_k».proof.Proof.Rules

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What each step takes and leaves -/

abbrev anyOut (c : Dev nD) (q : Fin 4) (j : Fin 16) : sProp 𝕄 := iprop(∃ f, outPts (F := F) c q j f)
abbrev anyStage (c : Dev nD) (j : Fin 16) : sProp 𝕄 := iprop(∃ f, stagePts (F := F) c j f)
/-- Chunk `j` of half `h` of the argument, unchanged. -/
abbrev arg (c : Dev nD) (h : Fin 2) (j : Fin 16) : sProp 𝕄 := argPts c h j (xAt m c)
/-- The owner of `g` is at round `r`; the duty of round `r` of `g` is one's own to pay; one may wait for `N` on `g`. -/
abbrev at' (g : GSem nD τ sig) (r : ℕ) : sProp 𝕄 := atPos ER g r ∅ 0
abbrev tok (g : GSem nD τ sig) (r : ℕ) : sProp 𝕄 := dutyTok ER g r false
abbrev may (g : GSem nD τ sig) (N : ℕ) : sProp 𝕄 := cred (tallyAt g () N)

def loadIn (c : Dev nD) (j : Fin 16) : sProp 𝕄 := iprop(arg m c (hf c) j ∗ anyStage c j ∗ tok (loadC c j) 0)
def loadOut (c : Dev nD) (j : Fin 16) : sProp 𝕄 := may (loadC c j) NL

def sendIn (c : Dev nD) (j : Fin 16) : sProp 𝕄 :=
  iprop(may (loadC c j) NL ∗ at' (loadC c j) 0 ∗ tok (loadC c j) 1 ∗ arg m c (hf (xp c)) j ∗ anyOut c (qd c) j ∗ anyOut (yp c) (qd c) j
    ∗ tok (sendYC c j) 0 ∗ tok (recvYC (yp c) j) 0)
def sendOut (c : Dev nD) (j : Fin 16) : sProp 𝕄 :=
  iprop(may (loadC c j) NL ∗ at' (loadC c j) 1 ∗ arg m c (hf c) j ∗ may (sendYC c j) NT)

def fwdIn (c : Dev nD) (j : Fin 16) : sProp 𝕄 :=
  iprop(may (loadC c j) NL ∗ at' (loadC c j) 1 ∗ may (recvYC c j) NT ∗ at' (recvYC c j) 0 ∗ tok (sendXC c j) 0 ∗ tok (recvXC (xp c) j) 0
    ∗ anyOut (xp c) (qd (yp c)) j ∗ anyOut c (qd (xp c)) j)
def fwdOut (c : Dev nD) (j : Fin 16) : sProp 𝕄 :=
  iprop(semVal (loadC c j) 0 ∗ semVal (recvYC c j) 0 ∗ may (sendXC c j) NT ∗ arg m c (hf (xp c)) j ∗ stagePts c j (staged m c (hf (xp c)))
    ∗ done m c (qd (xp c)) j)

def drainIn (c : Dev nD) (j : Fin 16) : sProp 𝕄 :=
  iprop(may (recvXC c j) NT ∗ at' (recvXC c j) 0 ∗ may (sendYC c j) NT ∗ at' (sendYC c j) 0 ∗ may (sendXC c j) NT ∗ at' (sendXC c j) 0)
def drainOut (c : Dev nD) (j : Fin 16) : sProp 𝕄 :=
  iprop(semVal (recvXC c j) 0 ∗ semVal (sendYC c j) 0 ∗ semVal (sendXC c j) 0
    ∗ done m c (qd (yp (xp c))) j ∗ done m c (qd c) j ∗ done m c (qd (yp c)) j)

/-! ## The steps -/

section Steps

variable (c : Dev nD) (j : Fin 16) (l : List (Fin 16))

theorem wp_stepLoad {α : Type} (k : PUnit → Prog (TpuEff nD τ sig (Elt F) Λ₀ .tc) α) (Q : α → sProp 𝕄) : iprop(Known m ∗ loadIn m c j ∗ emp ∗ ((loadOut c j ∗ emp) -∗ WP c (k ⟨⟩) Q)) ⊢ WP c (stepLoad c j >>= k) Q := by
  unfold stepLoad
  simp only [Prog.lift, Prog.bind_op, Prog.bind_ret, Prog.pure_eq_ret]
  unfold loadIn loadOut
  iintro ⟨#HK, ⟨Hx, Hs, Ht⟩, -, Hk⟩
  ihave #Hc := (known_load m c j) $$ HK
  iapply (wp_fetch m c j (hf c) 0 rfl rfl _ _ (near_off c j)) $$ [Hx Hs Ht]
  · isplitr; · iexact Hc
    isplitl [Hx]; · iexact Hx
    isplitl [Hs]; · iexact Hs
    isplitl [Ht]; · iexact Ht
    unfold known
    icases Hc with ⟨-, Hr⟩; iexact Hr
  iintro Hcr
  iapply Hk
  isplitl [Hcr]; · iexact Hcr
  iempintro

theorem wp_stepSend {α : Type} (k : PUnit → Prog (TpuEff nD τ sig (Elt F) Λ₀ .tc) α) (Q : α → sProp 𝕄) : iprop(Known m ∗ sendIn m c j ∗ owesSome c (oweY c (j :: l)) ∗ ((sendOut m c j ∗ owesSome c (oweY c l)) -∗ WP c (k ⟨⟩) Q))
    ⊢ WP c (stepSend c j >>= k) Q := by
  unfold stepSend
  simp only [Prog.lift, Prog.bind_op, Prog.bind_ret, Prog.pure_eq_ret]
  unfold sendIn sendOut
  iintro ⟨#HK, ⟨HcI, HaI, HtI, Hfar, Hout, HoutY, HtS, HtR⟩, HO, Hk⟩
  ihave #HI := (known_load m c j) $$ HK
  ihave #HS := (known_sendY m c j) $$ HK
  ihave #HR := (known_recvY m (yp c) j) $$ HK
  iapply (wp_wait m c (inS j) 0 NL (loaded m c (hf c) j) (by rw [role_load]; rfl) (by rw [role_load]; rfl) (by rw [role_load]; rfl)
    (nearM c j) (stageM j) rfl 0 (above_oweY c (j :: l) 0 (by decide)) (by rw [role_load]; exact Nat.zero_le _)) $$ [HcI HO HaI]
  · isplitr; · iexact HK
    isplitr; · iexact HI
    isplitl [HcI]; · iexact HcI
    isplitl [HO]; · iexact HO
    iexact HaI
  iintro ⟨HO, HaI, HrI, Hp⟩
  unfold loaded
  icases Hp with ⟨Hst, Hnear⟩
  iapply (wp_cast m c (qd c) (hf c) j (by revert c; decide) (src_own c) _ _ (cast_off c j)) $$ [Hst Hout]
  · isplitl [Hst] <;> iassumption
  iintro ⟨Hst, Hdone⟩
  iapply (wp_pass m c (yp c) (yDev c) (yDev_eq c) (qd c) j (ysS j) (yrS j) (by rw [role_sendY]; rfl) (by rw [role_recvY]; rfl)
    (by rw [role_sendY]; rfl) (by rw [role_recvY]; rfl) (by rw [role_sendY]; rfl) (by rw [role_recvY]; unfold rolePay; rw [yp_yp])
    (gathered_yp m c j) _ _ (send_off c j) (oweY c l) (oweY_cons c j l)) $$ [Hdone HoutY HO HtS HtR]
  · isplitr; · iexact HS
    isplitr; · iexact HR
    isplitl [Hdone]; · iexact Hdone
    isplitl [HoutY]; · iexact HoutY
    isplitl [HO]; · iexact HO
    isplitl [HtS] <;> iassumption
  iintro ⟨HcS, HO⟩
  iapply (wp_fetch m c j (hf (xp c)) 1 rfl rfl _ _ (far_off c j)) $$ [Hfar Hst HtI HrI]
  · isplitr; · iexact HI
    isplitl [Hfar]; · iexact Hfar
    isplitl [Hst]; · iexists _; iexact Hst
    isplitl [HtI] <;> iassumption
  iintro HcI
  iapply Hk
  isplitr [HO]
  · isplitl [HcI]; · iexact HcI
    isplitl [HaI]; · iexact HaI
    isplitl [Hnear] <;> iassumption
  iexact HO

theorem wp_stepForward {α : Type} (k : PUnit → Prog (TpuEff nD τ sig (Elt F) Λ₀ .tc) α) (Q : α → sProp 𝕄) : iprop(Known m ∗ fwdIn c j ∗ owesSome c (oweX c (j :: l)) ∗ ((fwdOut m c j ∗ owesSome c (oweX c l)) -∗ WP c (k ⟨⟩) Q))
    ⊢ WP c (stepForward c j >>= k) Q := by
  unfold stepForward
  simp only [Prog.lift, Prog.bind_op, Prog.bind_ret, Prog.pure_eq_ret]
  unfold fwdIn fwdOut
  iintro ⟨#HK, ⟨HcI, HaI, HcR, HaR, HtS, HtR, HoutX, Hown⟩, HO, Hk⟩
  ihave #HI := (known_load m c j) $$ HK
  ihave #HS := (known_sendX m c j) $$ HK
  ihave #HR := (known_recvX m (xp c) j) $$ HK
  ihave #HY := (known_recvY m c j) $$ HK
  iapply (wp_wait m c (yrS j) 0 NT (done m c (qd (yp c)) j) (by rw [role_recvY]; rfl) (by rw [role_recvY]; rfl) (by rw [role_recvY]; rfl)
    (sendM c j) (sendM c j) rfl 2 (above_oweX c (j :: l) 2 (by decide)) (by rw [role_recvY]; exact Nat.le_refl 2)) $$ [HcR HO HaR]
  · isplitr; · iexact HK
    isplitr; · iexact HY
    isplitl [HcR]; · iexact HcR
    isplitl [HO]; · iexact HO
    iexact HaR
  iintro ⟨HO, HaR, -, Hdone⟩
  imod (close_cell m c (.dma (yrS j)) (0 + 1) (duties_later' m c _ (fun j' h => by rw [role_recvY] at h; cases h))) $$ [HaR] with HzR
  · isplitr; · iexact HY
    iexact HaR
  iapply (wp_pass m c (xp c) (xDev c) (xDev_eq c) (qd (yp c)) j (xsS j) (xrS j) (by rw [role_sendX]; rfl) (by rw [role_recvX]; rfl)
    (by rw [role_sendX]; rfl) (by rw [role_recvX]; rfl) (by rw [role_sendX]; rfl) (by rw [role_recvX]; unfold rolePay; rw [xp_xp])
    (gathered_xp m c j) _ _ (fwd_off c j) (oweX c l) (oweX_cons c j l)) $$ [Hdone HoutX HO HtS HtR]
  · isplitr; · iexact HS
    isplitr; · iexact HR
    isplitl [Hdone]; · iexact Hdone
    isplitl [HoutX]; · iexact HoutX
    isplitl [HO]; · iexact HO
    isplitl [HtS] <;> iassumption
  iintro ⟨HcS, HO⟩
  iapply (wp_wait m c (inS j) 1 NL (loaded m c (hf (xp c)) j) (by rw [role_load]; rfl) (by rw [role_load]; rfl) (by rw [role_load]; rfl)
    (farM c j) (stageM j) rfl 2 (above_oweX c l 2 (by decide)) (by rw [role_load]; exact Nat.zero_le _)) $$ [HcI HO HaI]
  · isplitr; · iexact HK
    isplitr; · iexact HI
    isplitl [HcI]; · iexact HcI
    isplitl [HO]; · iexact HO
    iexact HaI
  iintro ⟨HO, HaI, -, Hp⟩
  imod (close_cell m c (.dma (inS j)) (1 + 1) (duties_later m c _)) $$ [HaI] with HzI
  · isplitr; · iexact HI
    iexact HaI
  unfold loaded
  icases Hp with ⟨Hst, Hfar⟩
  iapply (wp_cast m c (qd (xp c)) (hf (xp c)) j (by revert c; decide) (src_own' c) _ _ (own_off c j)) $$ [Hst Hown]
  · isplitl [Hst] <;> iassumption
  iintro ⟨Hst, Hdone⟩
  iapply Hk
  isplitr [HO]
  · isplitl [HzI]; · iexact HzI
    isplitl [HzR]; · iexact HzR
    isplitl [HcS]; · iexact HcS
    isplitl [Hfar]; · iexact Hfar
    isplitl [Hst] <;> iassumption
  iexact HO

theorem wp_stepDrain {α : Type} (k : PUnit → Prog (TpuEff nD τ sig (Elt F) Λ₀ .tc) α) (Q : α → sProp 𝕄) : iprop(Known m ∗ drainIn c j ∗ owesSome c 0 ∗ ((drainOut m c j ∗ owesSome c 0) -∗ WP c (k ⟨⟩) Q))
    ⊢ WP c (stepDrain c j >>= k) Q := by
  unfold stepDrain
  simp only [Prog.lift, Prog.bind_op, Prog.bind_ret, Prog.pure_eq_ret]
  unfold drainIn drainOut
  iintro ⟨#HK, ⟨HcR, HaR, HcY, HaY, HcX, HaX⟩, HO, Hk⟩
  ihave #HR := (known_recvX m c j) $$ HK
  ihave #HY := (known_sendY m c j) $$ HK
  ihave #HX := (known_sendX m c j) $$ HK
  iapply (wp_wait m c (xrS j) 0 NT (done m c (qd (yp (xp c))) j) (by rw [role_recvX]; rfl) (by rw [role_recvX]; rfl) (by rw [role_recvX]; rfl)
    (fwdM c j) (fwdM c j) rfl 3 (above_zero 3) (by rw [role_recvX]; exact Nat.le_refl 3)) $$ [HcR HO HaR]
  · isplitr; · iexact HK
    isplitr; · iexact HR
    isplitl [HcR]; · iexact HcR
    isplitl [HO]; · iexact HO
    iexact HaR
  iintro ⟨HO, HaR, -, HdR⟩
  iapply (wp_wait m c (ysS j) 0 NT (done m c (qd c) j) (by rw [role_sendY]; rfl) (by rw [role_sendY]; rfl) (by rw [role_sendY]; rfl)
    (sendM c j) (sendM c j) rfl 0 (above_zero 0) (by rw [role_sendY]; exact Nat.zero_le _)) $$ [HcY HO HaY]
  · isplitr; · iexact HK
    isplitr; · iexact HY
    isplitl [HcY]; · iexact HcY
    isplitl [HO]; · iexact HO
    iexact HaY
  iintro ⟨HO, HaY, -, HdY⟩
  iapply (wp_wait m c (xsS j) 0 NT (done m c (qd (yp c)) j) (by rw [role_sendX]; rfl) (by rw [role_sendX]; rfl) (by rw [role_sendX]; rfl)
    (fwdM c j) (fwdM c j) rfl 0 (above_zero 0) (by rw [role_sendX]; exact Nat.zero_le _)) $$ [HcX HO HaX]
  · isplitr; · iexact HK
    isplitr; · iexact HX
    isplitl [HcX]; · iexact HcX
    isplitl [HO]; · iexact HO
    iexact HaX
  iintro ⟨HO, HaX, -, HdX⟩
  imod (close_cell m c (.dma (xrS j)) (0 + 1) (duties_later' m c _ (fun j' h => by rw [role_recvX] at h; cases h))) $$ [HaR] with HzR
  · isplitr; · iexact HR
    iexact HaR
  imod (close_cell m c (.dma (ysS j)) (0 + 1) (duties_later' m c _ (fun j' h => by rw [role_sendY] at h; cases h))) $$ [HaY] with HzY
  · isplitr; · iexact HY
    iexact HaY
  imod (close_cell m c (.dma (xsS j)) (0 + 1) (duties_later' m c _ (fun j' h => by rw [role_sendX] at h; cases h))) $$ [HaX] with HzX
  · isplitr; · iexact HX
    iexact HaX
  iapply Hk
  isplitr [HO]
  · isplitl [HzR]; · iexact HzR
    isplitl [HzY]; · iexact HzY
    isplitl [HzX]; · iexact HzX
    isplitl [HdR]; · iexact HdR
    isplitl [HdY] <;> iassumption
  iexact HO

/-- The barrier: the two neighbours get the chunks they will write, and this device those it will. -/
theorem wp_stepMeet {α : Type} (k : PUnit → Prog (TpuEff nD τ sig (Elt F) Λ₀ .tc) α) (Q : α → sProp 𝕄) :
    iprop(Known m ∗ owesSome c (O₀ c) ∗ may (barC c) 2 ∗ at' (barC c) 0 ∗ dutyTok ER (barC (yp c)) 0 false ∗ dutyTok ER (barC (xp c)) 0 true
        ∗ meetY (yp c) ∗ meetX (xp c)
        ∗ ((owesSome c (oweY c chunks) ∗ semVal (barC c) 0 ∗ meetY c ∗ meetX c) -∗ WP c (k ⟨⟩) Q))
      ⊢ WP c (stepMeet c >>= k) Q := by
  unfold stepMeet
  simp only [semSignalWord, semWaitWord, Prog.lift, Prog.bind_op, Prog.bind_ret, Prog.pure_eq_ret]
  simp only [yDev_eq c, xDev_eq c]
  iintro ⟨#HK, HO, Hc, Ha, HtY, HtX, HmY, HmX, Hk⟩
  ihave #HB := (known_bar m c) $$ HK
  ihave #HY := (known_bar m (yp c)) $$ HK
  ihave #HX := (known_bar m (xp c)) $$ HK
  unfold known owesSome
  icases HO with ⟨%W, HO⟩
  icases HB with ⟨⟨%κ, #HB⟩, -⟩
  icases HY with ⟨⟨%κY, #HY⟩, #HrY⟩
  icases HX with ⟨⟨%κX, #HX⟩, #HrX⟩
  iapply (Rounds.wp_signal 𝒱₀ ER (sched m) (c : Thread nD τ) none (dst := (yp c : Thread nD τ)) (κ := κY) (r := 0) (d := false)
      (by rw [duties_tc, role_bar]; exact Finset.mem_univ _) (by rw [amount_tc, role_bar]; decide) () (O₁ c) rfl) $$ [HO HtY HmY]
  · isplitr; · iexact HY
    isplitl [HO]; · iexact HO
    isplitl [HtY]; · iexact HtY
    isplitl [HmY]; · rw [payload_bar_false]; iexact HmY
    iexact HrY
  iintro HO
  iapply (Rounds.wp_signal 𝒱₀ ER (sched m) (c : Thread nD τ) none (dst := (xp c : Thread nD τ)) (κ := κX) (r := 0) (d := true)
      (by rw [duties_tc, role_bar]; exact Finset.mem_univ _) (by rw [amount_tc, role_bar]; decide) () (oweY c chunks) rfl) $$ [HO HtX HmX]
  · isplitr; · iexact HX
    isplitl [HO]; · iexact HO
    isplitl [HtX]; · iexact HtX
    isplitl [HmX]; · rw [payload_bar_true]; iexact HmX
    iexact HrX
  iintro HO
  iapply (Rounds.wp_wait_rest_token 𝒱₀ ER (sched m) (c : Thread nD τ) none (κ := κ)
      (wpE_semWait_eq 𝒱₀ (c : Thread nD τ) none Set.univ) (Set.mem_univ _) () (O := oweY c chunks) (W := W) (R := 0) (m := 0) (T := ∅)
      (by rw [expect_bar]; decide)) $$ [Hc HO Ha]
  · isplitr; · iexact HB
    isplitl [Hc]; · iexact Hc
    isplitl [HO]; · iexact HO
    isplitr; · iapply (mayWait (above_oweY c chunks 1 (by decide)) (by rw [role_bar]; decide)); iapply (Known_levAts m); iexact HK
    iexact Ha
  iintro ⟨HO, Ha, -, Hpay⟩
  ihave Hp := (Entails.of_eq (rest_bar m c)) $$ Hpay
  icases Hp with ⟨HmY, HmX⟩
  imod (Rounds.cell_close ER (sched m) (Set.mem_univ κ) (fun h => h) (R := 0 + 1) (duties_later' m c _ (fun j' h => by rw [role_bar] at h; cases h))) $$ [Ha] with Hz
  · isplitr; · iexact HB
    iexact Ha
  iapply Hk
  isplitl [HO]; · iexists _; iexact HO
  isplitl [Hz]; · iexact Hz
  isplitl [HmY] <;> iassumption

end Steps

/-! ## A loop over the chunks -/

theorem wp_each_list (c : Dev nD) (f : Fin 16 → Prog (TpuEff nD τ sig (Elt F) Λ₀ .tc) PUnit) (A B : Fin 16 → sProp 𝕄) (S : List (Fin 16) → sProp 𝕄)
    {α : Type} (Q : α → sProp 𝕄)
    (step : ∀ j l (k : PUnit → Prog (TpuEff nD τ sig (Elt F) Λ₀ .tc) α),
      iprop(Known m ∗ A j ∗ S (j :: l) ∗ ((B j ∗ S l) -∗ WP c (k ⟨⟩) Q)) ⊢ WP c (f j >>= k) Q)
    (k : PUnit → Prog (TpuEff nD τ sig (Elt F) Λ₀ .tc) α) (l : List (Fin 16)) :
    iprop(Known m ∗ bigSepL l A ∗ S l ∗ ((bigSepL l B ∗ S []) -∗ WP c (k ⟨⟩) Q)) ⊢ WP c (each f l >>= k) Q := by
  induction l with
  | nil =>
    have e : (each f [] >>= k) = k ⟨⟩ := rfl
    rw [e, bigSepL_nil, bigSepL_nil]
    iintro ⟨-, -, HS, Hk⟩
    iapply Hk
    isplitr; · iempintro
    iexact HS
  | cons j l ih =>
    have e : (each f (j :: l) >>= k) = (f j >>= fun _ => each f l >>= k) := Prog.bind_assoc _ _ _
    have hA : bigSepL (j :: l) A = iprop(A j ∗ bigSepL l A) := bigSepL_cons _ _ _
    have hB : bigSepL (j :: l) B = iprop(B j ∗ bigSepL l B) := bigSepL_cons _ _ _
    rw [e, hA, hB]
    iintro ⟨#HK, ⟨HA, HAs⟩, HS, Hk⟩
    iapply (step j l)
    isplitr; · iexact HK
    isplitl [HA]; · iexact HA
    isplitl [HS]; · iexact HS
    iintro ⟨HB, HS⟩
    iapply ih
    isplitr; · iexact HK
    isplitl [HAs]; · iexact HAs
    isplitl [HS]; · iexact HS
    iintro ⟨HBs, HS⟩
    iapply Hk
    isplitr [HS]
    · isplitl [HB] <;> iassumption
    iexact HS

theorem chunks_univ : (Finset.univ : Finset (Fin 16)) = chunks.toFinset := by decide
theorem chunks_nodup : chunks.Nodup := by decide

theorem wp_each (c : Dev nD) (f : Fin 16 → Prog (TpuEff nD τ sig (Elt F) Λ₀ .tc) PUnit) (A B : Fin 16 → sProp 𝕄) (S : List (Fin 16) → sProp 𝕄)
    {α : Type} (Q : α → sProp 𝕄)
    (step : ∀ j l (k : PUnit → Prog (TpuEff nD τ sig (Elt F) Λ₀ .tc) α),
      iprop(Known m ∗ A j ∗ S (j :: l) ∗ ((B j ∗ S l) -∗ WP c (k ⟨⟩) Q)) ⊢ WP c (f j >>= k) Q)
    (k : PUnit → Prog (TpuEff nD τ sig (Elt F) Λ₀ .tc) α) :
    iprop(Known m ∗ bigSep Finset.univ A ∗ S chunks ∗ ((bigSep Finset.univ B ∗ S []) -∗ WP c (k ⟨⟩) Q)) ⊢ WP c (each f chunks >>= k) Q := by
  rw [bigSep_univ_eq_bigSepL chunks chunks_univ chunks_nodup, bigSep_univ_eq_bigSepL chunks chunks_univ chunks_nodup]
  exact wp_each_list m c f A B S Q step k chunks

end Cert.GatherProof
-- ==== Proof.Body.lean ====
/-
  One device's run: from the protocol's state at launch through the five loops to the gathered result.
-/
module

public import proofs.«01_k».proof.Proof.Loops
public import proofs.«01_k».proof.Proof.Gen.KernelIdeal.Launch
public import proofs.«01_k».proof.Proof.Gen.KernelIdeal.Points

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## A device's start -/

/-- One thing per chunk. -/
abbrev all (Φ : Fin 16 → sProp 𝕄) : sProp 𝕄 := bigSep Finset.univ Φ

/-- A resource for each of the kernel's own semaphores, kind by kind. -/
theorem by_kind (Φ : Fin 5 × Fin 16 → sProp 𝕄) : bigSep Finset.univ Φ
    = iprop((all fun j => Φ (0, j)) ∗ (all fun j => Φ (1, j)) ∗ (all fun j => Φ (2, j)) ∗ (all fun j => Φ (3, j)) ∗ (all fun j => Φ (4, j))) := by
  rw [bigSep_univ_prod, bigSep_univ_eq_bigSepL [0, 1, 2, 3, 4] (by decide) (by decide)]
  rfl

/-- Its positions, all at round 0. -/
def places (c : Dev nD) : sProp 𝕄 :=
  iprop(at' (barC c) 0 ∗ bigSep Finset.univ fun k : Fin 5 × Fin 16 => at' ((c : Thread nD τ), osem k) 0)
/-- The duties it pays: its signals', its local copies', its sends' and their receipts'. -/
def dues (c : Dev nD) : sProp 𝕄 :=
  iprop(dutyTok ER (barC (yp c)) 0 false ∗ dutyTok ER (barC (xp c)) 0 true
    ∗ (all fun j => tok (loadC c j) 0) ∗ (all fun j => tok (loadC c j) 1) ∗ (all fun j => tok (sendYC c j) 0) ∗ (all fun j => tok (sendXC c j) 0)
    ∗ (all fun j => tok (recvYC (yp c) j) 0) ∗ (all fun j => tok (recvXC (xp c) j) 0))
/-- What the others owe it. -/
def owed (c : Dev nD) : sProp 𝕄 :=
  iprop(may (barC c) 2 ∗ (all fun j => may (recvYC c j) NT) ∗ (all fun j => may (recvXC c j) NT))

def argWhole (c : Dev nD) : sProp 𝕄 := ((c : Thread nD τ).loc main_arg0) ↦{fullShare} xAt m c
def anyScratch (c : Dev nD) : sProp 𝕄 := iprop(∃ f : Buf (Elt F) ((c : Thread nD τ).loc cc0_scratch0), ((c : Thread nD τ).loc cc0_scratch0) ↦{fullShare} f)

def start (c : Dev nD) : sProp 𝕄 := iprop(Known m ∗ places c ∗ dues c ∗ owed c ∗ argWhole m c)
def Φ₀ (c : Dev nD) : sProp 𝕄 := iprop(start m c ∗ anyScratch c)
/-- After the run: the argument unchanged, all its semaphores at zero. -/
def Φ₁ (c : Dev nD) : sProp 𝕄 :=
  iprop(argWhole m c ∗ anyScratch c ∗ semVal (barC c) 0 ∗ bigSep Finset.univ fun k : Fin 5 × Fin 16 => semVal ((c : Thread nD τ), osem k) 0)

/-! ## The loops' resources, kind by kind -/

section Split

variable (c : Dev nD)

theorem loadIn_all : all (loadIn m c) = iprop((all fun j => arg m c (hf c) j) ∗ (all fun j => anyStage c j) ∗ all fun j => tok (loadC c j) 0) := by
  show (all fun j => loadIn m c j) = _
  unfold loadIn; simp only [bigSep_sep']
theorem loadOut_all : (all (loadOut c) : sProp 𝕄) = all fun j => may (loadC c j) NL := rfl
theorem sendIn_all : all (sendIn m c) = iprop((all fun j => may (loadC c j) NL) ∗ (all fun j => at' (loadC c j) 0) ∗ (all fun j => tok (loadC c j) 1)
    ∗ (all fun j => arg m c (hf (xp c)) j) ∗ (all fun j => anyOut c (qd c) j) ∗ (all fun j => anyOut (yp c) (qd c) j)
    ∗ (all fun j => tok (sendYC c j) 0) ∗ all fun j => tok (recvYC (yp c) j) 0) := by
  show (all fun j => sendIn m c j) = _
  unfold sendIn; simp only [bigSep_sep']
theorem sendOut_all : all (sendOut m c) = iprop((all fun j => may (loadC c j) NL) ∗ (all fun j => at' (loadC c j) 1) ∗ (all fun j => arg m c (hf c) j)
    ∗ all fun j => may (sendYC c j) NT) := by
  show (all fun j => sendOut m c j) = _
  unfold sendOut; simp only [bigSep_sep']
theorem fwdIn_all : (all (fwdIn c) : sProp 𝕄) = iprop((all fun j => may (loadC c j) NL) ∗ (all fun j => at' (loadC c j) 1) ∗ (all fun j => may (recvYC c j) NT)
    ∗ (all fun j => at' (recvYC c j) 0) ∗ (all fun j => tok (sendXC c j) 0) ∗ (all fun j => tok (recvXC (xp c) j) 0)
    ∗ (all fun j => anyOut (xp c) (qd (yp c)) j) ∗ all fun j => anyOut c (qd (xp c)) j) := by
  show (all fun j => fwdIn c j) = _
  unfold fwdIn; simp only [bigSep_sep']
theorem fwdOut_all : all (fwdOut m c) = iprop((all fun j => semVal (loadC c j) 0) ∗ (all fun j => semVal (recvYC c j) 0) ∗ (all fun j => may (sendXC c j) NT)
    ∗ (all fun j => arg m c (hf (xp c)) j) ∗ (all fun j => stagePts c j (staged m c (hf (xp c)))) ∗ all fun j => done m c (qd (xp c)) j) := by
  show (all fun j => fwdOut m c j) = _
  unfold fwdOut; simp only [bigSep_sep']
theorem drainIn_all : (all (drainIn c) : sProp 𝕄) = iprop((all fun j => may (recvXC c j) NT) ∗ (all fun j => at' (recvXC c j) 0) ∗ (all fun j => may (sendYC c j) NT)
    ∗ (all fun j => at' (sendYC c j) 0) ∗ (all fun j => may (sendXC c j) NT) ∗ all fun j => at' (sendXC c j) 0) := by
  show (all fun j => drainIn c j) = _
  unfold drainIn; simp only [bigSep_sep']
theorem drainOut_all : all (drainOut m c) = iprop((all fun j => semVal (recvXC c j) 0) ∗ (all fun j => semVal (sendYC c j) 0) ∗ (all fun j => semVal (sendXC c j) 0)
    ∗ (all fun j => done m c (qd (yp (xp c))) j) ∗ (all fun j => done m c (qd c) j) ∗ all fun j => done m c (qd (yp c)) j) := by
  show (all fun j => drainOut m c j) = _
  unfold drainOut; simp only [bigSep_sep']

theorem meetY_own : (meetY (yp c) : sProp 𝕄) = all fun j => anyOut c (qd (yp c)) j := by unfold meetY; rw [yp_yp]
theorem meetX_own : (meetX (xp c) : sProp 𝕄) = all fun j => anyOut c (qd (yp (xp c))) j := by unfold meetX; rw [xp_xp]
theorem meetY_other : (meetY c : sProp 𝕄) = all fun j => anyOut (yp c) (qd c) j := rfl
theorem meetX_other : (meetX c : sProp 𝕄) = all fun j => anyOut (xp c) (qd (yp c)) j := rfl
theorem any_out (q : Fin 4) (f : Buf (Elt F) ((c : Thread nD τ).loc cc0_stg0_0)) :
    (all fun j => outPts c q j f : sProp 𝕄) ⊢ all fun j => anyOut c q j :=
  bigSep_mono fun j _ => show iprop(outPts c q j f) ⊢ (iprop(anyOut c q j) : sProp 𝕄) by
    iintro H; iexists f; iexact H
theorem any_stage (f : Buf (Elt F) ((c : Thread nD τ).loc cc0_scratch0)) :
    (all fun j => stagePts c j f : sProp 𝕄) ⊢ all fun j => anyStage c j :=
  bigSep_mono fun j _ => show iprop(stagePts c j f) ⊢ (iprop(anyStage c j) : sProp 𝕄) by
    iintro H; iexists f; iexact H

theorem arg_join : iprop((all fun j => arg m c (hf c) j) ∗ all fun j => arg m c (hf (xp c)) j) = argWhole m c := (arg_split c (xAt m c)).symm
theorem out_join : iprop((all fun j => done m c (qd c) j) ∗ (all fun j => done m c (qd (xp c)) j) ∗ (all fun j => done m c (qd (yp c)) j)
    ∗ all fun j => done m c (qd (yp (xp c))) j) = (((c : Thread nD τ).loc cc0_stg0_0) ↦{fullShare} gathered m c : sProp 𝕄) := (out_split c (gathered m c)).symm

theorem closed_by_kind : (bigSep Finset.univ fun k : Fin 5 × Fin 16 => (semVal ((c : Thread nD τ), osem k) 0 : sProp 𝕄))
    = iprop((all fun j => semVal (loadC c j) 0) ∗ (all fun j => semVal (sendYC c j) 0) ∗ (all fun j => semVal (recvYC c j) 0)
      ∗ (all fun j => semVal (sendXC c j) 0) ∗ all fun j => semVal (recvXC c j) 0) := by_kind _
theorem places_by_kind : (bigSep Finset.univ fun k : Fin 5 × Fin 16 => (at' ((c : Thread nD τ), osem k) 0 : sProp 𝕄))
    = iprop((all fun j => at' (loadC c j) 0) ∗ (all fun j => at' (sendYC c j) 0) ∗ (all fun j => at' (recvYC c j) 0)
      ∗ (all fun j => at' (sendXC c j) 0) ∗ all fun j => at' (recvXC c j) 0) := by_kind _

end Split

/-! ## The run -/

/-- A loop over the chunks, its resources kind by kind. -/
theorem wp_loop (c : Dev nD) {f : Fin 16 → Prog (TpuEff nD τ sig (Elt F) Λ₀ .tc) PUnit} {A B : Fin 16 → sProp 𝕄} (S : List (Fin 16) → sProp 𝕄)
    {A' B' S₀ S₁ : sProp 𝕄} (hA : all A = A') (hB : all B = B') (h₀ : S chunks = S₀) (h₁ : S [] = S₁)
    {α : Type} (Q : α → sProp 𝕄)
    (step : ∀ j l (k : PUnit → Prog (TpuEff nD τ sig (Elt F) Λ₀ .tc) α),
      iprop(Known m ∗ A j ∗ S (j :: l) ∗ ((B j ∗ S l) -∗ WP c (k ⟨⟩) Q)) ⊢ WP c (f j >>= k) Q)
    (k : PUnit → Prog (TpuEff nD τ sig (Elt F) Λ₀ .tc) α) :
    iprop(Known m ∗ A' ∗ S₀ ∗ ((B' ∗ S₁) -∗ WP c (k ⟨⟩) Q)) ⊢ WP c (each f chunks >>= k) Q := by
  subst hA hB h₀ h₁
  exact wp_each m c f A B S Q step k

theorem stepsOf_eq (c : Dev nD) : (stepsOf (F := F) c)
    = each (stepLoad c) chunks >>= fun _ => stepMeet c >>= fun _ => each (stepSend c) chunks >>= fun _ => each (stepForward c) chunks >>= fun _ =>
        each (stepDrain c) chunks >>= pure := by
  rw [Prog.bind_pure]; rfl

theorem wp_done (c : Dev nD) (Q : PUnit → sProp 𝕄) : Q ⟨⟩ ⊢ WP c (pure ⟨⟩) Q := by
  show Q ⟨⟩ ⊢ wp frame (wpE (defs₀ (F := F)) 𝒱₀ (c : Thread nD τ) none) Set.univ (Prog.ret ⟨⟩) Q
  rw [wp_ret]
  exact fupd_intro

theorem sound_body (c : Dev nD) (Q : PUnit → sProp 𝕄) :
    iprop(start m c ∗ anyScratch c ∗ owesSome c (O₀ c) ∗ (∃ f : Buf (Elt F) ((c : Thread nD τ).loc cc0_stg0_0), ((c : Thread nD τ).loc cc0_stg0_0) ↦{fullShare} f)
        ∗ ((Φ₁ m c ∗ owesSome c 0 ∗ ((c : Thread nD τ).loc cc0_stg0_0) ↦{fullShare} gathered m c) -∗ Q ⟨⟩))
      ⊢ WP c body Q := by
  unfold body
  simp only [Prog.lift, Prog.bind_op, Prog.bind_ret, wp_deviceId]
  rw [show (stepsOf (F := F) (c : Thread nD τ).1) = _ from stepsOf_eq c]
  unfold start places dues owed anyScratch
  rw [places_by_kind, ← arg_join]
  iintro ⟨⟨#HK, ⟨HaB, HaL, HaSY, HaRY, HaSX, HaRX⟩, ⟨HtBY, HtBX, HtL0, HtL1, HtSY, HtSX, HtRY, HtRX⟩, ⟨HcB, HcY, HcX⟩, HxN, HxF⟩, ⟨%f, Hst⟩, HO, ⟨%g, Hout⟩, Hk⟩
  ihave Hs := (Entails.of_eq (stage_split c f)) $$ Hst
  ihave Hst := (any_stage c f) $$ Hs
  ihave Ho := (Entails.of_eq (out_split c g)) $$ Hout
  icases Ho with ⟨H0, H1, H2, H3⟩
  ihave Ho0 := (any_out c (qd c) g) $$ H0
  ihave Ho1 := (any_out c (qd (xp c)) g) $$ H1
  ihave Ho2 := (any_out c (qd (yp c)) g) $$ H2
  ihave Ho3 := (any_out c (qd (yp (xp c))) g) $$ H3
  iapply (wp_loop m c (fun _ => iprop(emp)) (loadIn_all m c) (loadOut_all c) rfl rfl Q (fun j l k => wp_stepLoad m c j k Q) _)
  isplitr; · iexact HK
  isplitl [HxN Hst HtL0]
  · isplitl [HxN]; · iexact HxN
    isplitl [Hst] <;> iassumption
  isplitr; · iempintro
  iintro ⟨HcL, -⟩
  iapply (wp_stepMeet m c _ Q)
  isplitr; · iexact HK
  isplitl [HO]; · iexact HO
  isplitl [HcB]; · iexact HcB
  isplitl [HaB]; · iexact HaB
  isplitl [HtBY]; · iexact HtBY
  isplitl [HtBX]; · iexact HtBX
  rw [meetY_own, meetX_own, meetY_other c, meetX_other c]
  isplitl [Ho2]; · iexact Ho2
  isplitl [Ho3]; · iexact Ho3
  iintro ⟨HO, HzB, HmY, HmX⟩
  iapply (wp_loop m c (fun l => owesSome c (oweY c l)) (sendIn_all m c) (sendOut_all m c) rfl (congrArg (owesSome c) (oweY_nil c)) Q (fun j l k => wp_stepSend m c j l k Q) _)
  isplitr; · iexact HK
  isplitl [HcL HaL HtL1 HxF Ho0 HmY HtSY HtRY]
  · isplitl [HcL]; · iexact HcL
    isplitl [HaL]; · iexact HaL
    isplitl [HtL1]; · iexact HtL1
    isplitl [HxF]; · iexact HxF
    isplitl [Ho0]; · iexact Ho0
    isplitl [HmY]; · iexact HmY
    isplitl [HtSY] <;> iassumption
  isplitl [HO]; · iexact HO
  iintro ⟨⟨HcL, HaL, HxN, HcSY⟩, HO⟩
  iapply (wp_loop m c (fun l => owesSome c (oweX c l)) (fwdIn_all c) (fwdOut_all m c) rfl (congrArg (owesSome c) (oweX_nil c)) Q (fun j l k => wp_stepForward m c j l k Q) _)
  isplitr; · iexact HK
  isplitl [HcL HaL HcY HaRY HtSX HtRX HmX Ho1]
  · isplitl [HcL]; · iexact HcL
    isplitl [HaL]; · iexact HaL
    isplitl [HcY]; · iexact HcY
    isplitl [HaRY]; · iexact HaRY
    isplitl [HtSX]; · iexact HtSX
    isplitl [HtRX]; · iexact HtRX
    isplitl [HmX] <;> iassumption
  isplitl [HO]; · iexact HO
  iintro ⟨⟨HzL, HzRY, HcSX, HxF, Hst, Hd1⟩, HO⟩
  iapply (wp_loop m c (fun _ => owesSome c 0) (drainIn_all c) (drainOut_all m c) rfl rfl Q (fun j l k => wp_stepDrain m c j k Q) _)
  isplitr; · iexact HK
  isplitl [HcX HaRX HcSY HaSY HcSX HaSX]
  · isplitl [HcX]; · iexact HcX
    isplitl [HaRX]; · iexact HaRX
    isplitl [HcSY]; · iexact HcSY
    isplitl [HaSY]; · iexact HaSY
    isplitl [HcSX] <;> iassumption
  isplitl [HO]; · iexact HO
  iintro ⟨⟨HzRX, HzSY, HzSX, Hd3, Hd0, Hd2⟩, HO⟩
  iapply (wp_done c Q)
  iapply Hk
  isplitr [HO Hd0 Hd1 Hd2 Hd3]
  · unfold Φ₁ anyScratch
    rw [closed_by_kind, ← arg_join]
    isplitl [HxN HxF]; · isplitl [HxN] <;> iassumption
    isplitl [Hst]
    · iexists (staged m c (hf (xp c)))
      rw [stage_split]; iexact Hst
    isplitl [HzB]; · iexact HzB
    isplitl [HzL]; · iexact HzL
    isplitl [HzSY]; · iexact HzSY
    isplitl [HzRY]; · iexact HzRY
    isplitl [HzSX] <;> iassumption
  isplitl [HO]; · iexact HO
  rw [← out_join]
  isplitl [Hd0]; · iexact Hd0
  isplitl [Hd1]; · iexact Hd1
  isplitl [Hd2] <;> iassumption

/-! ## The pipeline's body -/

def t₀ : Fin cfg0.N := t0_0

def dats (_ : Fin 1) (c : Dev nD) : Dat τ (Elt F) Unit ℕ UU ℕ cfg0 c where
  A w := m ((cfg0.win w).arr.view.loc (c : Thread nD τ))
  after w _ := match w with
    | ⟨0, _⟩ => gathered m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The result's staging buffer at known contents. -/
abbrev outIs (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t₀.castSucc
    ∗ ∃ f : Buf (Elt F) ((c : Thread nD τ).loc cc0_stg0_0), ((c : Thread nD τ).loc cc0_stg0_0) ↦{fullShare} f)
def bodyPost (c : Dev nD) : sProp 𝕄 :=
  iprop(Φ₁ m c ∗ (dats m 0 c).owesAt () t₀.succ ∗ outIs c (gathered m c))

theorem body_run (c : Dev nD) : bodyPre m c ⊢ WP c body (fun _ => bodyPost m c) := by
  unfold bodyPre bodyPost Φ₀ Dat.owesAt Pipeline.owesWithin
  iintro ⟨⟨Hs, Hscr⟩, ⟨%W, %hW, HO⟩, ⟨%g, Hout⟩⟩
  iapply (sound_body m c (fun _ => _))
  isplitl [Hs]; · iexact Hs
  isplitl [Hscr]; · iexact Hscr
  isplitl [HO]; · unfold owesSome; iexists W; iexact HO
  isplitl [Hout]; · iexists g; iexact Hout
  unfold owesSome
  iintro ⟨HΦ, ⟨%W', HO⟩, Hout⟩
  isplitl [HΦ]; · iexact HΦ
  isplitl [HO]
  · iexists W'
    isplitr; · ipureintro; exact fun _ _ => Or.inl trivial
    iexact HO
  iexists (gathered m c)
  isplitr; · (ipureintro; rfl)
  iexact Hout

theorem body_pre (c : Dev nD) : iprop(Φ₀ m c ∗ (dats m 0 c).owesAt () t₀.castSucc ∗ ∃ d, outIs c ((dats m 0 c).before (0 : Fin 1) t₀ d)) ⊢ bodyPre m c := by
  unfold bodyPre
  iintro ⟨HΦ, HO, ⟨%d, %g, -, Hout⟩⟩
  isplitl [HΦ]; · iexact HΦ
  isplitl [HO]; · iexact HO
  iexists g; iexact Hout

theorem body_at : defs₀ (F := F) .tc cfg0.body (cfg0.bodyArgs t0_0 (cfg0.slots t0_0)) = body :=
  (show _ = bodyAt0 (F := F) t0_0 from rfl).trans body_eq

set_option maxRecDepth 20000 in
theorem body_obligation (c : Dev nD) : BodyObligation (dats (F := F) m 0 c) (defs₀ (F := F)) 𝒱₀ () Set.univ := fun t => by
  rw [fin_N0 t]
  rw [show defs₀ (F := F) .tc cfg0.body (cfg0.bodyArgs t0_0 (cfg0.slots t0_0)) = body from body_at]
  rw [show (bigSep Finset.univ : (Fin cfg0.W → sProp 𝕄) → sProp 𝕄) = fun Φ => Φ (0 : Fin 1) from funext bigSep_W0]
  simp only [owns_whole]
  exact (body_pre m c).trans (body_run m c)

end Cert.GatherProof
-- ==== Proof.Launch.lean ====
/-
  The launch: the protocol's state minted for every device at once, its cells' invariants allocated, the tokens dealt
  to the devices that pay them; then the run of the whole program.
-/
module

public import proofs.«01_k».proof.Proof.Body
public import Idealize.ShloMosaic.Lib.Pipeline.CollectiveSegs

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem csem_injective : Function.Injective csem := by
  rintro (_ | k) (_ | k') h
  · rfl
  · obtain ⟨k', j⟩ := k'; fin_cases k' <;> cases h
  · obtain ⟨k, j⟩ := k; fin_cases k <;> cases h
  · exact congrArg Sum.inr (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def protoCells : Finset (GSem nD τ sig) := Finset.univ.map ⟨kcell, kcell_injective⟩

/-- The duties of one device's cells: the barrier's two; per chunk, the local copies' two rounds, the sends across `y`
    and `x`, the receives across `y` and `x`. -/
abbrev TK : Type := Bool ⊕ (Fin 6 × Fin 16)
def tsem : TK → SemLoc sig
  | .inl _ => .reg barS
  | .inr (0, j) => .dma (inS j) | .inr (1, j) => .dma (inS j) | .inr (2, j) => .dma (ysS j)
  | .inr (3, j) => .dma (xsS j) | .inr (4, j) => .dma (yrS j) | .inr (5, j) => .dma (xrS j)
def tround : TK → ℕ
  | .inr (1, _) => 1
  | _ => 0
def tduty : TK → Bool
  | .inl b => b
  | .inr _ => false
def trole : TK → Role
  | .inl _ => .bar
  | .inr (0, j) => .load j | .inr (1, j) => .load j | .inr (2, j) => .sendY j
  | .inr (3, j) => .sendX j | .inr (4, j) => .recvY j | .inr (5, j) => .recvX j
theorem role_tsem (t : TK) : role (tsem t) = trole t := by
  rcases t with _ | ⟨k, j⟩
  · exact role_bar
  · fin_cases k
    · exact role_load j
    · exact role_load j
    · exact role_sendY j
    · exact role_sendX j
    · exact role_recvY j
    · exact role_recvX j
theorem tkey_injective (t t' : TK) (h : trole t = trole t') (hr : tround t = tround t') (hd : tduty t = tduty t') : t = t' := by
  rcases t with b | ⟨k, j⟩ <;> rcases t' with b' | ⟨k', j'⟩
  · exact congrArg Sum.inl hd
  · fin_cases k' <;> cases h
  · fin_cases k <;> cases h
  · fin_cases k <;> fin_cases k' <;> first | (cases h; first | rfl | cases hr) | cases h

abbrev tokOf (x : Dev nD × TK) : GSem nD τ sig × ℕ × Bool := (((x.1 : Thread nD τ), tsem x.2), tround x.2, tduty x.2)
theorem tokOf_injective : Function.Injective tokOf := by
  rintro ⟨c, t⟩ ⟨c', t'⟩ h
  have h1 : c = c' := congrArg (fun x : GSem nD τ sig × ℕ × Bool => x.1.1.1) h
  have h2 : tsem t = tsem t' := congrArg (fun x : GSem nD τ sig × ℕ × Bool => x.1.2) h
  have h3 : tround t = tround t' := congrArg (fun x : GSem nD τ sig × ℕ × Bool => x.2.1) h
  have h4 : tduty t = tduty t' := congrArg (fun x : GSem nD τ sig × ℕ × Bool => x.2.2) h
  rw [h1, tkey_injective t t' (by rw [← role_tsem, ← role_tsem, h2]) h3 h4]
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The duty tokens of one device's own cells. -/
def toks (c : Dev nD) : sProp 𝕄 :=
  iprop((dutyTok ER (barC c) 0 false ∗ dutyTok ER (barC c) 0 true)
    ∗ (all fun j => tok (loadC c j) 0) ∗ (all fun j => tok (loadC c j) 1) ∗ (all fun j => tok (sendYC c j) 0) ∗ (all fun j => tok (sendXC c j) 0)
    ∗ (all fun j => tok (recvYC c j) 0) ∗ (all fun j => tok (recvXC c j) 0))

theorem toks_eq (c : Dev nD) : (bigSep Finset.univ fun t : TK => (dutyTok ER (tokOf (c, t)).1 (tokOf (c, t)).2.1 (tokOf (c, t)).2.2 : sProp 𝕄)) = toks c := by
  unfold toks
  rw [bigSep_univ_sum, bigSep_univ_prod, bigSep_univ_eq_bigSepL [false, true] (by decide) (by decide),
    bigSep_univ_eq_bigSepL [0, 1, 2, 3, 4, 5] (by decide) (by decide)]
  rfl

/-- What the launch deals one device, and what the global step makes of it. -/
def G (c : Dev nD) : sProp 𝕄 :=
  iprop((bigSep Finset.univ fun k : CK => roundState ER (sched m) (kcell (c, k)) 0)
    ∗ (bigSep Finset.univ fun k : CK => at' (kcell (c, k)) 0) ∗ (bigSep Finset.univ fun k : CK => reached ER (kcell (c, k)) 0) ∗ toks c)
def cellsKnown : sProp 𝕄 := bigSep Finset.univ fun x : Dev nD × CK => known m (kcell x)
instance cellsKnown_persistent : BI.Persistent (cellsKnown m : sProp 𝕄) := by unfold cellsKnown; infer_instance
def G' (c : Dev nD) : sProp 𝕄 := iprop(cellsKnown m ∗ places c ∗ dues c)

theorem by_device (Φ : GSem nD τ sig → sProp 𝕄) :
    bigSep protoCells Φ = bigSep Finset.univ fun c : Dev nD => bigSep Finset.univ fun k : CK => Φ (kcell (c, k)) := by
  unfold protoCells; rw [bigSep_map, bigSep_univ_prod]; rfl

theorem fund_proto : BI.own (ER (initOf protoCells protoToks)) ⊢ (|==> bigSep Finset.univ (G m) : sProp 𝕄) := by
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (sched m) protoCells protoToks) $$ HX with ⟨Hst, Hr, Hat, Htok⟩
  imodintro
  ihave Hst' := (Entails.of_eq (by_device fun g => roundState ER (sched m) g 0)) $$ Hst
  ihave Hat' := (Entails.of_eq (by_device fun g => at' g 0)) $$ Hat
  ihave Hr' := (Entails.of_eq (by_device fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step -/

theorem bigSep_CK (Φ : CK → sProp 𝕄) : bigSep Finset.univ Φ = iprop(Φ (.inl ()) ∗ bigSep Finset.univ fun k : Fin 5 × Fin 16 => Φ (.inr k)) := by
  rw [bigSep_univ_sum, bigSep_univ_eq_bigSepL [()] (by decide) (by decide)]; rfl

theorem ownSemFacts : Pipeline.OwnSemFacts cfg0.spec osem where
  isScoped := by decide
  inj := osem_injective
  disj := by decide

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => known m (kcell (c, k))) ∗ places c ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv Hr]
  · unfold known; rw [bigSep_sep']
    isplitl [Hinv] <;> iassumption
  isplitl [Hat]
  · iapply (show (bigSep Finset.univ fun k : CK => (at' (kcell (c, k)) 0 : sProp 𝕄)) ⊢ places c from Entails.of_eq (bigSep_CK _)); iexact Hat
  iexact Htok

/-- The tokens dealt to those who pay: a barrier's first and a receipt's across `y` to the device across `y`, a
    barrier's second and a receipt's across `x` to the one across `x`. -/
theorem toks_across : (bigSep Finset.univ fun c : Dev nD => (toks c : sProp 𝕄)) ⊢ bigSep Finset.univ fun c : Dev nD => dues c := by
  unfold toks dues
  simp only [bigSep_sep']
  rw [bigSep_univ_equiv acrossY (fun c : Dev nD => (dutyTok ER (barC c) 0 false : sProp 𝕄)),
    bigSep_univ_equiv acrossX (fun c : Dev nD => (dutyTok ER (barC c) 0 true : sProp 𝕄)),
    bigSep_univ_equiv acrossY (fun c : Dev nD => (all fun j => tok (recvYC c j) 0 : sProp 𝕄)),
    bigSep_univ_equiv acrossX (fun c : Dev nD => (all fun j => tok (recvXC c j) 0 : sProp 𝕄))]
  iintro ⟨⟨H1, H2⟩, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem regroup : (bigSep Finset.univ fun c : Dev nD => iprop((bigSep Finset.univ fun k : CK => known m (kcell (c, k))) ∗ places c ∗ toks c) : sProp 𝕄)
    ⊢ bigSep Finset.univ (G' m) := by
  rw [bigSep_sep', bigSep_sep', ← bigSep_univ_prod (fun x : Dev nD × CK => known m (kcell x))]
  iintro ⟨HI, Hp, Ht⟩
  ihave Hd := (toks_across (F := F)) $$ Ht
  iapply (bigSep_with_persistent (R := cellsKnown m) (Φ := fun c : Dev nD => iprop(places c ∗ dues c)) fun c _ => (show iprop(cellsKnown m ∗ places c ∗ dues c) ⊢ G' m c from BI.Entails.refl _))
  isplitl [HI]; · unfold cellsKnown; iexact HI
  rw [bigSep_sep']
  isplitl [Hp] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Chunk by chunk: what the devices' mirrors owe a device's receive cells. -/
theorem cred_owing (sm : Fin 16 → SemLoc sig) (f : Dev nD → Dev nD) (hf : ∀ d, f (f d) = d) (c : Dev nD) (l : List (Fin 16)) :
    (Pipeline.launchCred (fun d => owing (fun j => ((f d : Thread nD τ), sm j)) l) c : sProp 𝕄) ⊢ bigSepL l fun j => may ((c : Thread nD τ), sm j) NT := by
  induction l with
  | nil => rw [bigSepL_nil]; simp only [owing_nil]; exact Entails.of_eq (Pipeline.launchCred_zero c)
  | cons j l ih =>
    have h : bigSepL (j :: l) (fun j => (may ((c : Thread nD τ), sm j) NT : sProp 𝕄))
        = iprop(may ((c : Thread nD τ), sm j) NT ∗ bigSepL l fun j => may ((c : Thread nD τ), sm j) NT) := bigSepL_cons _ _ _
    rw [h]
    simp only [owing_cons]
    rw [Pipeline.launchCred_add]
    iintro ⟨H, Hj⟩
    isplitl [Hj]
    · iapply (Pipeline.launchCred_tallyAt (sm j) f f hf hf () NT c); iexact Hj
    · iapply ih; iexact H

theorem creds (c : Dev nD) : (Pipeline.launchCred O₀ c : sProp 𝕄) ⊢ owed c := by
  have h2 : (may (barC c) 2 : sProp 𝕄) = iprop(may (barC c) 1 ∗ may (barC c) 1) := by
    show cred (tallyAt (barC c) () (1 + 1)) = _
    rw [← tallyAt_add]; exact BI.Entails.antisymm (cred_add _ _).1 (cred_add _ _).2
  unfold owed
  rw [h2, show (Pipeline.launchCred O₀ c : sProp 𝕄) = Pipeline.launchCred (fun d => oweX d chunks + owing (recvYC (yp d)) chunks
      + tallyAt (barC (xp d)) () 1 + tallyAt (barC (yp d)) () 1) c from rfl,
    Pipeline.launchCred_add, Pipeline.launchCred_add, Pipeline.launchCred_add]
  simp only [all]
  rw [bigSep_univ_eq_bigSepL chunks chunks_univ chunks_nodup, bigSep_univ_eq_bigSepL chunks chunks_univ chunks_nodup]
  iintro ⟨⟨⟨HX, HY⟩, HbX⟩, HbY⟩
  isplitl [HbX HbY]
  · isplitl [HbX]
    · iapply (Pipeline.launchCred_tallyAt (.reg barS) xp xp xp_xp xp_xp () 1 c); iexact HbX
    · iapply (Pipeline.launchCred_tallyAt (.reg barS) yp yp yp_yp yp_yp () 1 c); iexact HbY
  isplitl [HY]
  · iapply (cred_owing (fun j => .dma (yrS j)) yp yp_yp c chunks); iexact HY
  · iapply (cred_owing (fun j => .dma (xrS j)) xp xp_xp c chunks); iexact HX

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨Hx, Hlev, Hcr, -, ⟨HK, Hp, Hd⟩⟩
  ihave Hc := (creds (F := F) c) $$ Hcr
  imodintro
  isplitl
  · isplitl [HK Hlev]; · unfold Known cellsKnown; isplitl [HK] <;> iassumption
    isplitl [Hp]; · iexact Hp
    isplitl [Hd]; · iexact Hd
    isplitl [Hc]; · iexact Hc
    unfold argWhole; iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ anyScratch
  iintro ⟨Hs, -, Hr⟩
  isplitl [Hs] <;> iassumption

theorem phi1_exit (c : Dev nD) :
    (dats m 0 c).Φ (Fin.last cfg0.N) ⊢ iprop((argWhole m c ∗ unscopedSems0 c) ∗ Pipeline.ownSems0 osem c ∗ Pipeline.scopedRest cfg0.spec c) := by
  rw [show (dats m 0 c).Φ (Fin.last cfg0.N) = Φ₁ m c from rfl, scopedRest0_eq, unscopedSems0_eq]
  unfold Φ₁ anyScratch Pipeline.ownSems0
  iintro ⟨Hx, Hr, HzB, HzS⟩
  isplitl [Hx HzB]
  · isplitl [Hx] <;> iassumption
  isplitl [HzS] <;> iassumption

theorem waits (c : Dev nD) : (levAts L lv : sProp 𝕄) ⊢ Pipeline.cellsWaits cfgs (dats m) () 0 c :=
  Pipeline.cellsWaits_intro cfgs (dats m) () 0 c fun w s t => by
    have hs : (((cfgs 0).win w).sem s) = cc0_sem0_0 := by fin_cases w; fin_cases s; rfl
    rw [hs]
    rcases t with ⟨_ | _, ht⟩
    · exact mayWait (above_O₀ c) (by rw [role_stage]; exact Nat.le_refl 0)
    · exact mayWait (above_zero 0) (by rw [role_stage]; exact Nat.le_refl 0)

/-- The argument read at the end. -/
theorem arg_read (c : Dev nD) (s' : Phys nD τ sig (Elt F)) :
    iprop((argWhole m c ∗ unscopedSems0 c) ∗ emp ∗ SI s') ⊢ |={Set.univ}=>
      (iprop(⌜s'.mem.mem ((c : Thread nD τ).loc main_arg0) = m ((c : Thread nD τ).loc main_arg0)
        ∧ ∀ sm : SemLoc sig, sm.isScoped .tc = false → s'.mem.sem ((c.tc : Thread nD τ), sm) = 0⌝ ∗ SI s') : sProp 𝕄) := by
  unfold argWhole
  iintro ⟨⟨Hx, Hu⟩, -, HSI⟩
  ihave %hx := (SI_pointsTo_agree (st := s') (ℓ := (c : Thread nD τ).loc main_arg0) (I := Finset.univ) (q := fullShare) (f := xAt m c)) $$ [HSI Hx]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro; exact ⟨funext fun i => hx i (Finset.mem_univ i), hz⟩
  · iexact HSI

/-! ## The run -/

def finalOut (c : Dev nD) : Buf (Elt F) ((c : Thread nD τ).loc main_v1) := (dats m 0 c).arrAt (0 : Fin 1) cfg0.N

set_option maxRecDepth 100000 in
/-- From any memory with zero counters every weakly fair execution of @main on the eight devices terminates, and every
    final state has each device's result at the computed contents, its argument unchanged and every counter at zero. -/
theorem run_arrays : θ_run defs (onTc (τ := τ) (main (F := F))) ⟨m, fun _ => 0, ρ⟩ (fun r =>
    (∀ c : Dev nD, r.2.mem ((c : Thread nD τ).loc main_v1) = finalOut m c) ∧ (∀ c : Dev nD, r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun c => iprop(argWhole m c ∗ unscopedSems0 c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := arg_read m)
    (hQ := fun _ h hs => ⟨fun c => (h c).1 0, fun c => (h c).2.2.1, sem_eq_zero hs fun c => (h c).2.2.2⟩)

end Cert.GatherProof

end
-- ==== Proof.Value.lean ====
/-
  The value: what the run leaves in each device's result is the whole array cast, when each device's argument is its
  block of that array.
-/
module

public import proofs.«01_k».proof.Proof.Launch
public import Idealize.ShloMosaic.Lib.Layout

@[expose] public section

noncomputable section

namespace Cert.GatherProof

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The result window is the whole array, written back at its one point. -/
theorem finalOut_eq (c : Dev nD) : finalOut m c = gathered m c := by
  unfold finalOut
  rw [show cfg0.N = ((0 : Fin 1) : Fin cfg0.N).val + 1 from rfl, (dats m 0 c).arrAt_succ (0 : Fin 1) (0 : Fin 1)]
  rw [show (cfg0.win (0 : Fin 1)).flush (0 : Fin 1) = true from flush0_0 t0_0, if_pos rfl]
  have hw : ∀ f w : Buf (Elt F) ((c : Thread nD τ).loc main_v1),
      ((cfg0.win (0 : Fin 1)).blk (0 : Fin 1)).view.write (Elt F) f w Finset.univ = w := fun f w => by
    have h1 : ((cfg0.win (0 : Fin 1)).blk (0 : Fin 1)).view.read (Elt F)
        (((cfg0.win (0 : Fin 1)).blk (0 : Fin 1)).view.write (Elt F) f w Finset.univ) = w := View.read_write_univ _ _
    have hz : (fun a => (win0_0.index (0 : Fin 1)) a * main_v1.ty.shape.size a) = fun _ => 0 :=
      funext fun a => by fin_cases a <;> decide
    exact (Memref.read_access_unit_zero (Elt F) main_v1 hz (fun a => by fin_cases a <;> decide) _).symm.trans h1
  exact hw _ _

/-- The run of the whole program, the result in closed form. -/
theorem run_main : θ_run defs (onTc (τ := τ) (main (F := F))) ⟨m, fun _ => 0, ρ⟩ (fun r =>
    (∀ c : Dev nD, r.2.mem ((c : Thread nD τ).loc main_v1) = gathered m c) ∧ (∀ c : Dev nD, r.2.mem ((c : Thread nD τ).loc main_arg0) = m ((c : Thread nD τ).loc main_arg0))
      ∧ r.2.sem = fun _ => 0) :=
  (θ_run defs _ _).mono (fun _ h => ⟨fun c => (h.1 c).trans (finalOut_eq m c), h.2⟩) (run_arrays m ρ)

/-- A row of the result lies, in the block its device holds, at that row of the whole array. -/
theorem wrap_idx (h : Layout.TilesN ⟨2, ![8192, 1024]⟩ ⟨2, ![16384, 1024]⟩ fun b => Layout.cutSize [2, 2, 2] ((![[1], []] : Fin 2 → List ℕ) b))
    (c : Dev nD) (i : S16384x1024.Idx) :
    h.idx (Layout.meshBlock [2, 2, 2] ![[1], []] (src c (pieceOf i).1)) (wrap i) = i := by
  have h0 : (i 0).val < 16384 := (i 0).isLt
  have h1 : (i 1).val < 1024 := (i 1).isLt
  have hs : ((src c (pieceOf i).1).val / 2) % 2 = ((i 0).val / 4096 % 4) / 2 := src_y c (pieceOf i).1
  funext b; apply Fin.ext
  rw [Layout.TilesN.idx_val]
  rcases b with ⟨_ | _ | n, hb⟩
  · show (((src c (pieceOf i).1).val / 2) % 2 * 1 + 0) * 8192 + (i 0).val % 8192 = (i 0).val
    omega
  · show 0 * 1024 + (i 1).val % 1024 = (i 1).val
    omega
  · exact absurd hb (by simp)

/-- Devices that hold their blocks of a whole array `X` end with `X` cast. -/
theorem gathered_whole (X : S16384x1024.Idx → F .f32)
    (hX : ∀ c : Dev nD, m ((c : Thread nD τ).loc main_arg0)
      = Layout.blockN ⟨2, ![8192, 1024]⟩ ⟨2, ![16384, 1024]⟩ (Layout.meshBlock [2, 2, 2] ![[1], []] c) X) (c : Dev nD) :
    gathered m c = fun i => castElt (X i) := by
  funext i
  show castElt (m (((src c (pieceOf i).1 : Dev nD) : Thread nD τ).loc main_arg0) (wrap i)) = castElt (X i)
  rw [hX, Layout.blockN_apply, wrap_idx]

end Cert.GatherProof

end
-- ==== Proof.lean ====
/-
  The claims of one kernel: an all-gather across `y` of an array's two blocks, each cast to bf16, whose quarters travel
  across `y` and are forwarded across `x`. The program and its idealization have one text, so its run is proved once,
  for any float values (Proof/Launch.lean, Proof/Value.lean), and read at both instances here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Value
public import Idealize.ShloMosaic.Adequacy
public import Idealize.ShloMosaic.Init

@[expose] public section

noncomputable section

namespace Cert.Proof

open Idealize.ShloMosaic Idealize.SL.Sem

variable {F : FTy → Type} [FloatOps F]

/-- The two programs' kernels are one: their texts, label by label; -/
theorem bodies_eq : (Cert.Kernel.defs₀ (F := F)) = Cert.KernelIdeal.defs₀ := by
  unfold Cert.Kernel.defs₀ Cert.KernelIdeal.defs₀
  refine congrArg Defs.onTc ?_
  funext l a
  match l, a with
  | 0, (t, s) => rfl
/-- and so their tables. -/
theorem defs_eq : (Cert.Kernel.defs (F := F)) = Cert.KernelIdeal.defs := congrArg (Pipeline.defs Cert.KernelIdeal.pcfgs) bodies_eq

theorem frame_kernel : Cert.quiescent_Kernel := fun m ρ _ => by
  rw [defs_eq]
  exact (θ_run (Cert.KernelIdeal.defs (F := Bits)) _ _).mono (fun _ h => And.intro h.2.1 h.2.2) (Cert.GatherProof.run_main (F := Bits) m ρ)

theorem frame_kernelIdeal : Cert.quiescent_KernelIdeal := fun m ρ _ =>
  (θ_run Cert.KernelIdeal.defs _ _).mono (fun _ h => ⟨h.2.1, h.2.2⟩) (Cert.GatherProof.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem value_ideal : Cert.algebraic_KernelIdeal_ReferenceIdeal := fun m ρ m' ρ' _ hX =>
  ⟨_, (θ_run Cert.KernelIdeal.defs _ _).mono
      (fun _ h c => ⟨(h.1 c).trans (Cert.GatherProof.gathered_whole (F := Ideal) m _ hX c), h.2.1 c⟩) (Cert.GatherProof.run_main (F := Ideal) m ρ),
    (θ_run Cert.ReferenceIdeal.defs _ _).mono (fun _ h => h 0) (Cert.ReferenceIdeal.Value.run (F := Ideal) m' ρ')⟩

theorem value_bits : Cert.bitexact_Kernel_Reference := fun m ρ m' ρ' _ hX => by
  rw [defs_eq]
  exact ⟨_, (θ_run (Cert.KernelIdeal.defs (F := Bits)) _ _).mono
      (fun _ h c => And.intro ((h.1 c).trans (Cert.GatherProof.gathered_whole (F := Bits) m _ hX c)) (h.2.1 c)) (Cert.GatherProof.run_main (F := Bits) m ρ),
    (θ_run Cert.Reference.defs _ _).mono (fun _ h => h 0) (Cert.Reference.Value.run (F := Bits) m' ρ')⟩

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, value_ideal, value_bits⟩

end Cert.Proof

end
